-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_inputs_ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S2x1024x8x128 : Shape := ⟨4, ![2, 1024, 8, 128]⟩
abbrev S512x1024 : Shape := ⟨2, ![512, 1024]⟩
abbrev S1792x1024 : Shape := ⟨2, ![1792, 1024]⟩
abbrev S2 : Shape := ⟨1, ![2]⟩
abbrev S6 : Shape := ⟨1, ![6]⟩
abbrev S_ : Shape := ⟨0, ![]⟩
abbrev S1 : Shape := ⟨1, ![1]⟩
abbrev S1x1024x8x128 : Shape := ⟨4, ![1, 1024, 8, 128]⟩
abbrev S1024x8x128 : Shape := ⟨3, ![1024, 8, 128]⟩
abbrev S512x128 : Shape := ⟨2, ![512, 128]⟩
abbrev S1x1024x1x128 : Shape := ⟨4, ![1, 1024, 1, 128]⟩
abbrev S1024x128 : Shape := ⟨2, ![1024, 128]⟩
abbrev S512 : Shape := ⟨1, ![512]⟩
abbrev S512x1 : Shape := ⟨2, ![512, 1]⟩
abbrev S128x1024 : Shape := ⟨2, ![128, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S2x1024x8x128, .f32⟩
  | .local _ .vmem, ⟨5, _⟩ => ⟨S512x1024, .bf16⟩
  | .local _ .vmem, ⟨6, _⟩ => ⟨S1792x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v41 : BitVec 32 := Scalar.muli v19 c4_i32_14
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_24 : BitVec 32 := 1#32
  let v57 : BitVec 32 := Scalar.muli v46 c1_i32_24
  let v58 : BitVec 32 := Scalar.addi c0_i32_25 v57
  v58.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v48 : BitVec 32 := Scalar.muli v19 c4_i32_18
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_19 : BitVec 32 := 2#32
  let v49 : BitVec 32 := Scalar.muli v47 c2_i32_19
  let v50 : BitVec 32 := Scalar.addi v48 v49
  let v38 : BitVec 32 := Scalar.addi v20 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_27 : BitVec 32 := 1#32
  let v59 : BitVec 32 := Scalar.muli v53 c1_i32_27
  let v60 : BitVec 32 := Scalar.addi c0_i32_28 v59
  v60.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v54 : BitVec 32 := Scalar.addi v2 c4_i32_21
  let c8_i32_22 : BitVec 32 := 8#32
  let v55 : BitVec 32 := Scalar.remsi v54 c8_i32_22
  let c1_i32_30 : BitVec 32 := 1#32
  let v61 : BitVec 32 := Scalar.muli v55 c1_i32_30
  let v62 : BitVec 32 := Scalar.addi c0_i32_31 v61
  v62.toNat
def k0_off1 (d0 : Dev nD) : Fin 4 → Nat :=
  let c0_i32_34 : BitVec 32 := 0#32
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_32 : BitVec 32 := 8#32
  let v63 : BitVec 32 := Scalar.muli v2 c8_i32_32
  let c0_i32_41 : BitVec 32 := 0#32
  ![0, 0, v63.toNat, 0]
def k0_off2 (d0 : Dev nD) : Fin 2 → Nat :=
  let c512_i32_50 : BitVec 32 := 512#32
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v77 : BitVec 32 := Scalar.muli c512_i32 v39
  let v78 : BitVec 32 := Scalar.subi c512_i32_50 v77
  let v106 : Index := Scalar.indexCast v78
  let c0_72 : Index := 0#32
  ![v106.toNat, 0]
def k0_dev4 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v41 : BitVec 32 := Scalar.muli v19 c4_i32_14
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_210 : BitVec 32 := 1#32
  let v388 : BitVec 32 := Scalar.muli v46 c1_i32_210
  let v389 : BitVec 32 := Scalar.addi c0_i32_211 v388
  v389.toNat
def k0_off3 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v77 : BitVec 32 := Scalar.muli c512_i32 v39
  let v396 : Index := Scalar.indexCast v77
  let c0_216 : Index := 0#32
  ![v396.toNat, 0]
def k0_off4 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v77 : BitVec 32 := Scalar.muli c512_i32 v39
  let c256_i32_51 : BitVec 32 := 256#32
  let v81 : BitVec 32 := Scalar.addi v77 c256_i32_51
  let c256_i32_52 : BitVec 32 := 256#32
  let v82 : BitVec 32 := Scalar.muli c256_i32_52 v37
  let v83 : BitVec 32 := Scalar.subi v81 v82
  let v692 : Index := Scalar.indexCast v83
  let c0_384 : Index := 0#32
  ![v692.toNat, 0]
def k0_dev5 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v48 : BitVec 32 := Scalar.muli v19 c4_i32_18
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_19 : BitVec 32 := 2#32
  let v49 : BitVec 32 := Scalar.muli v47 c2_i32_19
  let v50 : BitVec 32 := Scalar.addi v48 v49
  let v38 : BitVec 32 := Scalar.addi v20 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_389 : BitVec 32 := 1#32
  let v699 : BitVec 32 := Scalar.muli v53 c1_i32_389
  let v700 : BitVec 32 := Scalar.addi c0_i32_390 v699
  v700.toNat
def k0_off5 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v77 : BitVec 32 := Scalar.muli c512_i32 v39
  let c256_i32 : BitVec 32 := 256#32
  let v79 : BitVec 32 := Scalar.muli c256_i32 v37
  let v80 : BitVec 32 := Scalar.addi v77 v79
  let v717 : Index := Scalar.indexCast v80
  let c0_410 : Index := 0#32
  ![v717.toNat, 0]
def k0_off6 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v77 : BitVec 32 := Scalar.muli c512_i32 v39
  let c256_i32 : BitVec 32 := 256#32
  let v79 : BitVec 32 := Scalar.muli c256_i32 v37
  let v80 : BitVec 32 := Scalar.addi v77 v79
  let c128_i32_53 : BitVec 32 := 128#32
  let v86 : BitVec 32 := Scalar.addi v80 c128_i32_53
  let c128_i32_54 : BitVec 32 := 128#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v87 : BitVec 32 := Scalar.muli c128_i32_54 v19
  let v88 : BitVec 32 := Scalar.subi v86 v87
  let v725 : Index := Scalar.indexCast v88
  let c0_414 : Index := 0#32
  ![v725.toNat, 0]
def k0_dev6 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v54 : BitVec 32 := Scalar.addi v2 c4_i32_21
  let c8_i32_22 : BitVec 32 := 8#32
  let v55 : BitVec 32 := Scalar.remsi v54 c8_i32_22
  let c1_i32_419 : BitVec 32 := 1#32
  let v732 : BitVec 32 := Scalar.muli v55 c1_i32_419
  let v733 : BitVec 32 := Scalar.addi c0_i32_420 v732
  v733.toNat
def k0_off7 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v38 : BitVec 32 := Scalar.addi v20 v37
  let c2_i32_12 : BitVec 32 := 2#32
  let v39 : BitVec 32 := Scalar.remsi v38 c2_i32_12
  let v77 : BitVec 32 := Scalar.muli c512_i32 v39
  let c256_i32 : BitVec 32 := 256#32
  let v79 : BitVec 32 := Scalar.muli c256_i32 v37
  let v80 : BitVec 32 := Scalar.addi v77 v79
  let c128_i32 : BitVec 32 := 128#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v84 : BitVec 32 := Scalar.muli c128_i32 v19
  let v85 : BitVec 32 := Scalar.addi v80 v84
  let v750 : Index := Scalar.indexCast v85
  let c0_439 : Index := 0#32
  ![v750.toNat, 0]
def k0_dev7 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v54 : BitVec 32 := Scalar.addi v2 c4_i32_21
  let c8_i32_22 : BitVec 32 := 8#32
  let v55 : BitVec 32 := Scalar.remsi v54 c8_i32_22
  let c1_i32_448 : BitVec 32 := 1#32
  let v765 : BitVec 32 := Scalar.muli v55 c1_i32_448
  let v766 : BitVec 32 := Scalar.addi c0_i32_449 v765
  v766.toNat
def k0_dev8 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_18 : BitVec 32 := 4#32
  let v48 : BitVec 32 := Scalar.muli v19 c4_i32_18
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_19 : BitVec 32 := 2#32
  let v49 : BitVec 32 := Scalar.muli v47 c2_i32_19
  let v50 : BitVec 32 := Scalar.addi v48 v49
  let v38 : BitVec 32 := Scalar.addi v20 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_476 : BitVec 32 := 1#32
  let v794 : BitVec 32 := Scalar.muli v53 c1_i32_476
  let v795 : BitVec 32 := Scalar.addi c0_i32_477 v794
  v795.toNat
def k0_dev9 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_14 : BitVec 32 := 4#32
  let v41 : BitVec 32 := Scalar.muli v19 c4_i32_14
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_15 : BitVec 32 := 2#32
  let v42 : BitVec 32 := Scalar.muli v37 c2_i32_15
  let v43 : BitVec 32 := Scalar.addi v41 v42
  let c1_i32_13 : BitVec 32 := 1#32
  let v38 : BitVec 32 := Scalar.addi v20 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_502 : BitVec 32 := 1#32
  let v823 : BitVec 32 := Scalar.muli v46 c1_i32_502
  let v824 : BitVec 32 := Scalar.addi c0_i32_503 v823
  v824.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x64x1024x1024, .f32⟩
  | .hbm, ⟨85, _⟩ => ⟨S_, .f32⟩
  | .hbm, ⟨86, _⟩ => ⟨S1x64x1024x1024, .f32⟩
  | .hbm, ⟨87, _⟩ => ⟨S1x64x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x64x1024x1024, .i1⟩
  | .hbm, ⟨92, _⟩ => ⟨S1x64x1024x1024, .f32⟩
  | .hbm, ⟨93, _⟩ => ⟨S1x64x1024x1024, .f32⟩
  | .hbm, ⟨94, _⟩ => ⟨S_, .f32⟩
  | .hbm, ⟨95, _⟩ => ⟨S1x64x1024, .f32⟩
  | .hbm, ⟨96, _⟩ => ⟨S1x64x1024x1, .f32⟩
  | .hbm, ⟨97, _⟩ => ⟨S1x64x1024x1024, .f32⟩
  | .hbm, ⟨98, _⟩ => ⟨S1x64x1024x1024, .f32⟩
  | .hbm, ⟨99, _⟩ => ⟨S1x64x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x64x1024, .f32⟩
  | .hbm, ⟨105, _⟩ => ⟨S1x64x1024x1, .f32⟩
  | .hbm, ⟨106, _⟩ => ⟨S_, .f32⟩
  | .hbm, ⟨107, _⟩ => ⟨S_, .f32⟩
  | .hbm, ⟨108, _⟩ => ⟨S1x64x1024x1, .i1⟩
  | .hbm, ⟨109, _⟩ => ⟨S1x64x1024x1, .f32⟩
  | .hbm, ⟨110, _⟩ => ⟨S1x64x1024x1, .f32⟩
  | .hbm, ⟨111, _⟩ => ⟨S1x64x1024x1024, .f32⟩
  | .hbm, ⟨112, _⟩ => ⟨S1x64x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x64x1024x1024, .i1⟩
  | .hbm, ⟨117, _⟩ => ⟨S1x64x1024x1024, .f32⟩
  | .hbm, ⟨118, _⟩ => ⟨S1x64x1024x1024, .f32⟩
  | .hbm, ⟨119, _⟩ => ⟨S1x64x128x1024, .f32⟩
  | .hbm, ⟨120, _⟩ => ⟨S1x1024x64x128, .f32⟩
  | .hbm, ⟨121, _⟩ => ⟨S1x1024x8192, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Values.lean ====
/-
  What each device computes and what each message carries: the attention of the device's own heads on its two halves of
  the rows, then the successive contents of the result's staging buffer through the reduce-scatter and the all-gather,
  each a function of the launch memory of all devices.
-/
module

public import proofs.«01_k».proof.Proof.Gen.KernelIdeal.Frame
public import proofs.«01_k».proof.Proof.Gen.KernelIdeal.Skeleton

@[expose] public section

set_option maxRecDepth 65536

noncomputable section

namespace Cert.KernelIdeal.Net

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-! ## The partners -/

/-- The partner along the first mesh axis: the neighbour with the other parity. -/
def xp (c : Dev nD) : Dev nD := ⟨c.val + 1 - 2 * (c.val % 2), by have := c.isLt; show _ < 8; have : c.val < 8 := this; omega⟩
/-- The partner along the second mesh axis: the mirror image inside the group of four. -/
def yp (c : Dev nD) : Dev nD := ⟨c.val / 4 * 4 + (3 - c.val % 4), by have : c.val < 8 := c.isLt; show _ < 8; omega⟩
/-- The partner along the third mesh axis: the same place in the other group of four. -/
def zp (c : Dev nD) : Dev nD := ⟨(c.val + 4) % 8, Nat.mod_lt _ (by decide)⟩

theorem xp_xp (c : Dev nD) : xp (xp c) = c := by revert c; decide
theorem yp_yp (c : Dev nD) : yp (yp c) = c := by revert c; decide
theorem zp_zp (c : Dev nD) : zp (zp c) = c := by revert c; decide

theorem dev1_eq (c : Dev nD) : (⟨k0_dev1 c, k0_dev1_lt c⟩ : Dev nD) = xp c := by revert c; decide +kernel
theorem dev2_eq (c : Dev nD) : (⟨k0_dev2 c, k0_dev2_lt c⟩ : Dev nD) = yp c := by revert c; decide +kernel
theorem dev3_eq (c : Dev nD) : (⟨k0_dev3 c, k0_dev3_lt c⟩ : Dev nD) = zp c := by revert c; decide +kernel
theorem dev4_eq (c : Dev nD) : (⟨k0_dev4 c, k0_dev4_lt c⟩ : Dev nD) = xp c := by revert c; decide +kernel
theorem dev5_eq (c : Dev nD) : (⟨k0_dev5 c, k0_dev5_lt c⟩ : Dev nD) = yp c := by revert c; decide +kernel
theorem dev6_eq (c : Dev nD) : (⟨k0_dev6 c, k0_dev6_lt c⟩ : Dev nD) = zp c := by revert c; decide +kernel
theorem dev7_eq (c : Dev nD) : (⟨k0_dev7 c, k0_dev7_lt c⟩ : Dev nD) = zp c := by revert c; decide +kernel
theorem dev8_eq (c : Dev nD) : (⟨k0_dev8 c, k0_dev8_lt c⟩ : Dev nD) = yp c := by revert c; decide +kernel
theorem dev9_eq (c : Dev nD) : (⟨k0_dev9 c, k0_dev9_lt c⟩ : Dev nD) = xp c := by revert c; decide +kernel

/-! ## The buffers and the rectangles the kernel addresses -/

abbrev xM : Memref sig .tc .vmem S1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1024x1024 .f32 := Memref.whole cc0_stg3_0
abbrev kM : Memref sig .tc .hbm S1x1024x64x128 .f32 := Memref.whole main_arg2
abbrev vM : Memref sig .tc .hbm S1x1024x64x128 .f32 := Memref.whole main_arg3
abbrev kvM : Memref sig .tc .vmem S2x1024x8x128 .f32 := Memref.whole cc0_scratch0
abbrev sbM : Memref sig .tc .vmem S512x1024 .bf16 := Memref.whole cc0_scratch1
abbrev rbM : Memref sig .tc .vmem S1792x1024 .bf16 := Memref.whole cc0_scratch2

/-- The rows of the result the `n`-th offset names. -/
abbrev r2 (c : Dev nD) : Rect S1024x1024 := Rect.unit (s := S1024x1024) (k0_off2 c) S512x1024.size (k0_off2_inb c)
abbrev r3 (c : Dev nD) : Rect S1024x1024 := Rect.unit (s := S1024x1024) (k0_off3 c) S512x1024.size (k0_off3_inb c)
abbrev r4 (c : Dev nD) : Rect S1024x1024 := Rect.unit (s := S1024x1024) (k0_off4 c) S256x1024.size (k0_off4_inb c)
abbrev r5 (c : Dev nD) : Rect S1024x1024 := Rect.unit (s := S1024x1024) (k0_off5 c) S256x1024.size (k0_off5_inb c)
abbrev r6 (c : Dev nD) : Rect S1024x1024 := Rect.unit (s := S1024x1024) (k0_off6 c) S128x1024.size (k0_off6_inb c)
abbrev r7 (c : Dev nD) : Rect S1024x1024 := Rect.unit (s := S1024x1024) (k0_off7 c) S128x1024.size (k0_off7_inb c)

/-! ## The inputs at the kernel's entry -/

/-- The one grid point. -/
abbrev t₀ : Fin cfg0.N := ⟨0, by decide⟩

/-- Device `c`'s staged blocks of `x`, `Wq` and `Wo`. -/
def xstg (c : Dev nD) : Buf (Elt F) ((c : Thread nD τ).loc cc0_stg0_0) := iblk m c 0 t₀
def wqstg (c : Dev nD) : Buf (Elt F) ((c : Thread nD τ).loc cc0_stg1_0) := iblk m c 1 t₀
def wostg (c : Dev nD) : Buf (Elt F) ((c : Thread nD τ).loc cc0_stg2_0) := iblk m c 2 t₀

/-- Device `c`'s own eight heads of a 64-head array: head `h` of its own is head `8 c + h` of the array. -/
def headIx (c : Dev nD) (i : S2x1024x8x128.Idx) : S1x1024x64x128.Idx :=
  fun | 0 => ⟨0, Nat.one_pos⟩ | 1 => i 1 | 2 => ⟨8 * c.val + (i 2).val, by have : c.val < 8 := c.isLt; have : (i 2).val < 8 := (i 2).isLt; show _ < 64; omega⟩ | 3 => i 3

/-- What the key/value scratch holds once both local copies have landed: the device's own heads of the keys, then of the
    values. -/
def kvF (c : Dev nD) : Buf (Elt F) ((c : Thread nD τ).loc cc0_scratch0) := fun i =>
  if (i 0).val = 0 then (V m c main_arg2 : S1x1024x64x128.Idx → Elt F .f32) (headIx c i)
  else (V m c main_arg3 : S1x1024x64x128.Idx → Elt F .f32) (headIx c i)

/-! ## One head's contribution -/

/-- The softmax weights of one head before normalising: the exponential of the masked scores. -/
def hw (mk : IVec S512x1024 1) (qh : FVec F S512x128 .bf16) (k : Vec F S1x1024x1x128 .f32) : FVec F S512x1024 .f32 :=
  exp (select mk (matmul dot_S512x128_S1024x128_S512x1024_1_1_0_0_n_n none qh
      (truncf .bf16 (shapeCast S1024x128 k shapeCasts_S1x1024x1x128_S1024x128) bitsLt_bf16_f32) (constant S512x1024 .f32 0x00000000#32))
    (broadcast S512x1024 (Scalar.ofBits .f32 0xCE6E6B28#32)))

/-- One head's context: the weights times the values, times the reciprocal of the weights' sum. -/
def hctx (mk : IVec S512x1024 1) (qh : FVec F S512x128 .bf16) (k v : Vec F S1x1024x1x128 .f32) : FVec F S512x128 .f32 :=
  mulf (matmul dot_S512x1024_S1024x128_S512x128_1_0_0_1_n_n none (truncf .bf16 (hw mk qh k) bitsLt_bf16_f32)
      (truncf .bf16 (shapeCast S1024x128 v shapeCasts_S1x1024x1x128_S1024x128) bitsLt_bf16_f32) (constant S512x128 .f32 0x00000000#32))
    (broadcastTo S512x128 (divf (broadcast S512x1 (Scalar.ofBits .f32 0x3F800000#32))
      (shapeCast S512x1 (multiReduction .add [1] S512 (hw mk qh k) 0x00000000#32 reduces_S512x1024_S512 (.inl rfl) rfl) shapeCasts_S512_S512x1))
      broadcasts_S512x1_S512x128)

/-- One head's contribution added to what the heads before it gave. -/
def hd (mk : IVec S512x1024 1) (qh : FVec F S512x128 .f32) (k v : Vec F S1x1024x1x128 .f32) (wo : Vec F S128x1024 .f32)
    (acc : FVec F S512x1024 .f32) : FVec F S512x1024 .f32 :=
  addf acc (matmul dot_S512x128_S128x1024_S512x1024_1_0_0_1_n_n none
    (truncf .bf16 (hctx mk (truncf .bf16 qh bitsLt_bf16_f32) k v) bitsLt_bf16_f32)
    (truncf .bf16 (shapeCast S128x1024 wo shapeCasts_S128x1024_S128x1024) bitsLt_bf16_f32) (constant S512x1024 .f32 0x00000000#32))

/-! ## The reads of the kernel -/

/-- Head `h` of the keys and of the values, off the scratch; and the rows of `Wo` that head meets. -/
abbrev ldK0 (f : S2x1024x8x128.Idx → Elt F .f32) : Vec F S1x1024x1x128 .f32 :=
  kvM.view.readAt (Elt F) (Rect.unit (s := S2x1024x8x128) ![0, 0, 0, 0] S1x1024x1x128.size inb_S2x1024x8x128_S1x1024x1x128_0_0_0_0).toLoadRect f
abbrev ldV0 (f : S2x1024x8x128.Idx → Elt F .f32) : Vec F S1x1024x1x128 .f32 :=
  kvM.view.readAt (Elt F) (Rect.unit (s := S2x1024x8x128) ![1, 0, 0, 0] S1x1024x1x128.size inb_S2x1024x8x128_S1x1024x1x128_1_0_0_0).toLoadRect f
abbrev ldO0 (f : S1024x1024.Idx → Elt F .f32) : Vec F S128x1024 .f32 :=
  woM.view.readAt (Elt F) (Rect.unit (s := S1024x1024) ![0, 0] S128x1024.size inb_S1024x1024_S128x1024_0_0).toLoadRect f
abbrev ldK1 (f : S2x1024x8x128.Idx → Elt F .f32) : Vec F S1x1024x1x128 .f32 :=
  kvM.view.readAt (Elt F) (Rect.unit (s := S2x1024x8x128) ![0, 0, 1, 0] S1x1024x1x128.size inb_S2x1024x8x128_S1x1024x1x128_0_0_1_0).toLoadRect f
abbrev ldV1 (f : S2x1024x8x128.Idx → Elt F .f32) : Vec F S1x1024x1x128 .f32 :=
  kvM.view.readAt (Elt F) (Rect.unit (s := S2x1024x8x128) ![1, 0, 1, 0] S1x1024x1x128.size inb_S2x1024x8x128_S1x1024x1x128_1_0_1_0).toLoadRect f
abbrev ldO1 (f : S1024x1024.Idx → Elt F .f32) : Vec F S128x1024 .f32 :=
  woM.view.readAt (Elt F) (Rect.unit (s := S1024x1024) ![128, 0] S128x1024.size inb_S1024x1024_S128x1024_128_0).toLoadRect f
abbrev ldK2 (f : S2x1024x8x128.Idx → Elt F .f32) : Vec F S1x1024x1x128 .f32 :=
  kvM.view.readAt (Elt F) (Rect.unit (s := S2x1024x8x128) ![0, 0, 2, 0] S1x1024x1x128.size inb_S2x1024x8x128_S1x1024x1x128_0_0_2_0).toLoadRect f
abbrev ldV2 (f : S2x1024x8x128.Idx → Elt F .f32) : Vec F S1x1024x1x128 .f32 :=
  kvM.view.readAt (Elt F) (Rect.unit (s := S2x1024x8x128) ![1, 0, 2, 0] S1x1024x1x128.size inb_S2x1024x8x128_S1x1024x1x128_1_0_2_0).toLoadRect f
abbrev ldO2 (f : S1024x1024.Idx → Elt F .f32) : Vec F S128x1024 .f32 :=
  woM.view.readAt (Elt F) (Rect.unit (s := S1024x1024) ![256, 0] S128x1024.size inb_S1024x1024_S128x1024_256_0).toLoadRect f
abbrev ldK3 (f : S2x1024x8x128.Idx → Elt F .f32) : Vec F S1x1024x1x128 .f32 :=
  kvM.view.readAt (Elt F) (Rect.unit (s := S2x1024x8x128) ![0, 0, 3, 0] S1x1024x1x128.size inb_S2x1024x8x128_S1x1024x1x128_0_0_3_0).toLoadRect f
abbrev ldV3 (f : S2x1024x8x128.Idx → Elt F .f32) : Vec F S1x1024x1x128 .f32 :=
  kvM.view.readAt (Elt F) (Rect.unit (s := S2x1024x8x128) ![1, 0, 3, 0] S1x1024x1x128.size inb_S2x1024x8x128_S1x1024x1x128_1_0_3_0).toLoadRect f
abbrev ldO3 (f : S1024x1024.Idx → Elt F .f32) : Vec F S128x1024 .f32 :=
  woM.view.readAt (Elt F) (Rect.unit (s := S1024x1024) ![384, 0] S128x1024.size inb_S1024x1024_S128x1024_384_0).toLoadRect f
abbrev ldK4 (f : S2x1024x8x128.Idx → Elt F .f32) : Vec F S1x1024x1x128 .f32 :=
  kvM.view.readAt (Elt F) (Rect.unit (s := S2x1024x8x128) ![0, 0, 4, 0] S1x1024x1x128.size inb_S2x1024x8x128_S1x1024x1x128_0_0_4_0).toLoadRect f
abbrev ldV4 (f : S2x1024x8x128.Idx → Elt F .f32) : Vec F S1x1024x1x128 .f32 :=
  kvM.view.readAt (Elt F) (Rect.unit (s := S2x1024x8x128) ![1, 0, 4, 0] S1x1024x1x128.size inb_S2x1024x8x128_S1x1024x1x128_1_0_4_0).toLoadRect f
abbrev ldO4 (f : S1024x1024.Idx → Elt F .f32) : Vec F S128x1024 .f32 :=
  woM.view.readAt (Elt F) (Rect.unit (s := S1024x1024) ![512, 0] S128x1024.size inb_S1024x1024_S128x1024_512_0).toLoadRect f
abbrev ldK5 (f : S2x1024x8x128.Idx → Elt F .f32) : Vec F S1x1024x1x128 .f32 :=
  kvM.view.readAt (Elt F) (Rect.unit (s := S2x1024x8x128) ![0, 0, 5, 0] S1x1024x1x128.size inb_S2x1024x8x128_S1x1024x1x128_0_0_5_0).toLoadRect f
abbrev ldV5 (f : S2x1024x8x128.Idx → Elt F .f32) : Vec F S1x1024x1x128 .f32 :=
  kvM.view.readAt (Elt F) (Rect.unit (s := S2x1024x8x128) ![1, 0, 5, 0] S1x1024x1x128.size inb_S2x1024x8x128_S1x1024x1x128_1_0_5_0).toLoadRect f
abbrev ldO5 (f : S1024x1024.Idx → Elt F .f32) : Vec F S128x1024 .f32 :=
  woM.view.readAt (Elt F) (Rect.unit (s := S1024x1024) ![640, 0] S128x1024.size inb_S1024x1024_S128x1024_640_0).toLoadRect f
abbrev ldK6 (f : S2x1024x8x128.Idx → Elt F .f32) : Vec F S1x1024x1x128 .f32 :=
  kvM.view.readAt (Elt F) (Rect.unit (s := S2x1024x8x128) ![0, 0, 6, 0] S1x1024x1x128.size inb_S2x1024x8x128_S1x1024x1x128_0_0_6_0).toLoadRect f
abbrev ldV6 (f : S2x1024x8x128.Idx → Elt F .f32) : Vec F S1x1024x1x128 .f32 :=
  kvM.view.readAt (Elt F) (Rect.unit (s := S2x1024x8x128) ![1, 0, 6, 0] S1x1024x1x128.size inb_S2x1024x8x128_S1x1024x1x128_1_0_6_0).toLoadRect f
abbrev ldO6 (f : S1024x1024.Idx → Elt F .f32) : Vec F S128x1024 .f32 :=
  woM.view.readAt (Elt F) (Rect.unit (s := S1024x1024) ![768, 0] S128x1024.size inb_S1024x1024_S128x1024_768_0).toLoadRect f
abbrev ldK7 (f : S2x1024x8x128.Idx → Elt F .f32) : Vec F S1x1024x1x128 .f32 :=
  kvM.view.readAt (Elt F) (Rect.unit (s := S2x1024x8x128) ![0, 0, 7, 0] S1x1024x1x128.size inb_S2x1024x8x128_S1x1024x1x128_0_0_7_0).toLoadRect f
abbrev ldV7 (f : S2x1024x8x128.Idx → Elt F .f32) : Vec F S1x1024x1x128 .f32 :=
  kvM.view.readAt (Elt F) (Rect.unit (s := S2x1024x8x128) ![1, 0, 7, 0] S1x1024x1x128.size inb_S2x1024x8x128_S1x1024x1x128_1_0_7_0).toLoadRect f
abbrev ldO7 (f : S1024x1024.Idx → Elt F .f32) : Vec F S128x1024 .f32 :=
  woM.view.readAt (Elt F) (Rect.unit (s := S1024x1024) ![896, 0] S128x1024.size inb_S1024x1024_S128x1024_896_0).toLoadRect f

/-- The whole of `Wq`, and 512 rows of `x`. -/
abbrev ldWq (f : S1024x1024.Idx → Elt F .f32) : Vec F S1024x1024 .f32 :=
  wqM.view.readAt (Elt F) (Rect.unit (s := S1024x1024) ![0, 0] S1024x1024.size inb_S1024x1024_S1024x1024_0_0).toLoadRect f
abbrev ldX2 (c : Dev nD) (f : S1024x1024.Idx → Elt F .f32) : Vec F S512x1024 .f32 := xM.view.readAt (Elt F) (r2 c).toLoadRect f
abbrev ldX3 (c : Dev nD) (f : S1024x1024.Idx → Elt F .f32) : Vec F S512x1024 .f32 := xM.view.readAt (Elt F) (r3 c).toLoadRect f

/-! ## All eight heads on 512 rows -/

/-- The contribution of the device's heads to 512 rows of the result: `q` the rows' queries, `mk` their mask. -/
def at0 (mk : IVec S512x1024 1) (q : FVec F S512x1024 .f32) (kv : S2x1024x8x128.Idx → Elt F .f32) (wo : S1024x1024.Idx → Elt F .f32) : FVec F S512x1024 .f32 :=
  hd mk (extractStridedSlice S512x128 ![0, 0] q slices_S512x1024_o0_0_S512x128) (ldK0 kv) (ldV0 kv) (ldO0 wo) (broadcast S512x1024 (Scalar.ofBits .f32 0x00000000#32))
def at1 (mk : IVec S512x1024 1) (q : FVec F S512x1024 .f32) (kv : S2x1024x8x128.Idx → Elt F .f32) (wo : S1024x1024.Idx → Elt F .f32) : FVec F S512x1024 .f32 :=
  hd mk (extractStridedSlice S512x128 ![0, 128] q slices_S512x1024_o0_128_S512x128) (ldK1 kv) (ldV1 kv) (ldO1 wo) (at0 mk q kv wo)
def at2 (mk : IVec S512x1024 1) (q : FVec F S512x1024 .f32) (kv : S2x1024x8x128.Idx → Elt F .f32) (wo : S1024x1024.Idx → Elt F .f32) : FVec F S512x1024 .f32 :=
  hd mk (extractStridedSlice S512x128 ![0, 256] q slices_S512x1024_o0_256_S512x128) (ldK2 kv) (ldV2 kv) (ldO2 wo) (at1 mk q kv wo)
def at3 (mk : IVec S512x1024 1) (q : FVec F S512x1024 .f32) (kv : S2x1024x8x128.Idx → Elt F .f32) (wo : S1024x1024.Idx → Elt F .f32) : FVec F S512x1024 .f32 :=
  hd mk (extractStridedSlice S512x128 ![0, 384] q slices_S512x1024_o0_384_S512x128) (ldK3 kv) (ldV3 kv) (ldO3 wo) (at2 mk q kv wo)
def at4 (mk : IVec S512x1024 1) (q : FVec F S512x1024 .f32) (kv : S2x1024x8x128.Idx → Elt F .f32) (wo : S1024x1024.Idx → Elt F .f32) : FVec F S512x1024 .f32 :=
  hd mk (extractStridedSlice S512x128 ![0, 512] q slices_S512x1024_o0_512_S512x128) (ldK4 kv) (ldV4 kv) (ldO4 wo) (at3 mk q kv wo)
def at5 (mk : IVec S512x1024 1) (q : FVec F S512x1024 .f32) (kv : S2x1024x8x128.Idx → Elt F .f32) (wo : S1024x1024.Idx → Elt F .f32) : FVec F S512x1024 .f32 :=
  hd mk (extractStridedSlice S512x128 ![0, 640] q slices_S512x1024_o0_640_S512x128) (ldK5 kv) (ldV5 kv) (ldO5 wo) (at4 mk q kv wo)
def at6 (mk : IVec S512x1024 1) (q : FVec F S512x1024 .f32) (kv : S2x1024x8x128.Idx → Elt F .f32) (wo : S1024x1024.Idx → Elt F .f32) : FVec F S512x1024 .f32 :=
  hd mk (extractStridedSlice S512x128 ![0, 768] q slices_S512x1024_o0_768_S512x128) (ldK6 kv) (ldV6 kv) (ldO6 wo) (at5 mk q kv wo)
def at7 (mk : IVec S512x1024 1) (q : FVec F S512x1024 .f32) (kv : S2x1024x8x128.Idx → Elt F .f32) (wo : S1024x1024.Idx → Elt F .f32) : FVec F S512x1024 .f32 :=
  hd mk (extractStridedSlice S512x128 ![0, 896] q slices_S512x1024_o0_896_S512x128) (ldK7 kv) (ldV7 kv) (ldO7 wo) (at6 mk q kv wo)

/-- The first coordinate of the device in its group, as the kernel computes it; the first rows of the half it keeps and
    of the half it sends first. -/
def w39 (c : Dev nD) : BitVec 32 := BitVec.ofNat 32 ((c.val % 4 + c.val % 4 / 2) % 2)
abbrev kxW (c : Dev nD) : BitVec 32 := Scalar.muli 512#32 (w39 c)
abbrev sxW (c : Dev nD) : BitVec 32 := Scalar.subi 512#32 (kxW c)

/-- The mask of the 512 rows from row `w`: the block of the row and of the key are equal, or the key's block is the first,
    or their sum is divisible by three. -/
def maskW (w : BitVec 32) : IVec S512x1024 1 := k0_pay4 (k0_pay3 w)

/-- `Wq` scaled. -/
def wqb (c : Dev nD) : FVec F S1024x1024 .bf16 := k0_pay1 (ldWq (wqstg m c))
/-- The queries of the half sent first, and of the half kept. -/
def q1 (c : Dev nD) : FVec F S512x1024 .f32 := k0_pay2 (wqb m c) (ldX2 c (xstg m c))
def q2 (c : Dev nD) : FVec F S512x1024 .f32 := k0_pay2 (wqb m c) (ldX3 c (xstg m c))
/-- The device's contribution to the half it sends first, and to the half it keeps. -/
def acc1 (c : Dev nD) : FVec F S512x1024 .f32 := at7 (maskW (sxW c)) (q1 m c) (kvF m c) (wostg m c)
def acc2 (c : Dev nD) : FVec F S512x1024 .f32 := at7 (maskW (kxW c)) (q2 m c) (kvF m c) (wostg m c)

/-! ## The result's staging buffer, stage by stage, and the messages -/

abbrev OutT (F : FTy → Type) : Type := S1024x1024.Idx → Elt F .f32
abbrev stOut (r : Rect S1024x1024) (f : OutT F) (w : r.shape.Idx → Elt F .f32) : OutT F := (outM.access r).write (Elt F) f w Finset.univ

/-- After the local computation: the device's own contribution, on all rows. -/
def out0 (c : Dev nD) : OutT F := stOut (r3 c) (stOut (r2 c) (fun _ => (Scalar.ofBits .f32 0x00000000#32 : F .f32)) (acc1 m c)) (acc2 m c)
/-- Message 0: the contribution to the half sent first, rounded. -/
def msg0 (c : Dev nD) : FVec F S512x1024 .bf16 := shapeCast S512x1024 (truncf .bf16 (acc1 m c) bitsLt_bf16_f32) shapeCasts_S512x1024_S512x1024
/-- After the exchange along the first axis. -/
def out1 (c : Dev nD) : OutT F := stOut (r3 c) (out0 m c) (k0_pay48 (outM.view.readAt (Elt F) (r3 c).toLoadRect (out0 m c)) (msg0 m (xp c)))
def msg1 (c : Dev nD) : FVec F S256x1024 .bf16 := k0_pay49 (outM.view.readAt (Elt F) (r4 c).toLoadRect (out1 m c))
/-- After the exchange along the second axis. -/
def out2 (c : Dev nD) : OutT F := stOut (r5 c) (out1 m c) (k0_pay50 (outM.view.readAt (Elt F) (r5 c).toLoadRect (out1 m c)) (msg1 m (yp c)))
def msg2 (c : Dev nD) : FVec F S128x1024 .bf16 := k0_pay51 (outM.view.readAt (Elt F) (r6 c).toLoadRect (out2 m c))
/-- After the exchange along the third axis: 128 rows are complete. -/
def out3 (c : Dev nD) : OutT F := stOut (r7 c) (out2 m c) (k0_pay52 (outM.view.readAt (Elt F) (r7 c).toLoadRect (out2 m c)) (msg2 m (zp c)))
def msg3 (c : Dev nD) : FVec F S128x1024 .bf16 := k0_pay54 (k0_pay53 (outM.view.readAt (Elt F) (r7 c).toLoadRect (out3 m c)))
/-- Gathered along the third axis: 256 rows are complete. -/
def out4 (c : Dev nD) : OutT F := stOut (r6 c) (out3 m c) (k0_pay55 (msg3 m (zp c)))
def msg4 (c : Dev nD) : FVec F S256x1024 .bf16 := k0_pay56 (outM.view.readAt (Elt F) (r5 c).toLoadRect (out4 m c))
/-- Gathered along the second axis: 512 rows are complete. -/
def out5 (c : Dev nD) : OutT F := stOut (r4 c) (out4 m c) (k0_pay57 (msg4 m (yp c)))
def msg5 (c : Dev nD) : FVec F S512x1024 .bf16 := k0_pay58 (outM.view.readAt (Elt F) (r3 c).toLoadRect (out5 m c))
/-- Gathered along the first axis: the whole result. -/
def out6 (c : Dev nD) : OutT F := stOut (r2 c) (out5 m c) (k0_pay59 (msg5 m (xp c)))

/-- Whatever the result's staging buffer held at entry is gone once both halves are stored. -/
theorem out0_eq (c : Dev nD) (f : OutT F) : stOut (r3 c) (stOut (r2 c) f (acc1 m c)) (acc2 m c) = out0 m c := by
  have hcov : ∀ i : S1024x1024.Idx, i ∈ (r3 c).set ∨ i ∈ (r2 c).set := by
    intro i
    have h : (k0_off2 c 0 = 0 ∧ k0_off3 c 0 = 512 ∨ k0_off2 c 0 = 512 ∧ k0_off3 c 0 = 0) ∧ k0_off2 c 1 = 0 ∧ k0_off3 c 1 = 0 := by
      revert c; decide +kernel
    have h0 : (i 0).val < 1024 := (i 0).isLt
    have h1 : (i 1).val < 1024 := (i 1).isLt
    simp only [Rect.mem_set_unit, Fin.forall_fin_two]
    show (k0_off3 c 0 ≤ (i 0).val ∧ (i 0).val < k0_off3 c 0 + 512) ∧ (k0_off3 c 1 ≤ (i 1).val ∧ (i 1).val < k0_off3 c 1 + 1024) ∨
      (k0_off2 c 0 ≤ (i 0).val ∧ (i 0).val < k0_off2 c 0 + 512) ∧ (k0_off2 c 1 ≤ (i 1).val ∧ (i 1).val < k0_off2 c 1 + 1024)
    omega
  have e3 : (outM.access (r3 c)).setOn Finset.univ = (r3 c).set := View.set_slice_whole _ _
  have e2 : (outM.access (r2 c)).setOn Finset.univ = (r2 c).set := View.set_slice_whole _ _
  funext i
  unfold out0 stOut
  by_cases h3 : i ∈ (r3 c).set
  · rw [← e3, View.setOn_univ] at h3
    obtain ⟨x, -, rfl⟩ := Finset.mem_map.mp h3
    rw [View.write_emb_of_mem _ _ (Finset.mem_univ x), View.write_emb_of_mem _ _ (Finset.mem_univ x)]
  · have h2 := (hcov i).resolve_left h3
    rw [← e3] at h3
    rw [View.write_of_not_mem _ _ _ h3, View.write_of_not_mem _ _ _ h3]
    rw [← e2, View.setOn_univ] at h2
    obtain ⟨x, -, rfl⟩ := Finset.mem_map.mp h2
    rw [View.write_emb_of_mem _ _ (Finset.mem_univ x), View.write_emb_of_mem _ _ (Finset.mem_univ x)]

end Cert.KernelIdeal.Net

end
-- ==== Proof.Proto.lean ====
/-
  THE PROTOCOL. Eight devices; device c's partners along the three mesh axes are xp c, yp c, zp c (each an involution).

  Barrier semaphore (1 cell per device). Device c signals xp c, yp c, zp c by one unit each, in that order, then waits for 3
  on its own. The unit device c pays to a partner hands over, at contents not chosen, the two regions of c's receive buffer
  that this partner writes, with the fact that round 0 of c's two receive cells for them is reached:
    to xp c regions 0 and 5, to yp c regions 1 and 4, to zp c regions 2 and 3.
  Local semaphores 0 and 1 (a cell each). Device c copies its own heads of the keys (values) into half 0 (1) of its key/value
  scratch, crediting the half's bytes; it waits for both. Each landing hands over the half, at the keys (values) of its own
  heads, and the source slice back.
  Send semaphore s and receive semaphore s, s = 0..5 (a cell each). At step s device c copies the first rows of its send
  buffer into region s of the partner's receive buffer (partner xp, yp, zp, zp, yp, xp), crediting the region's bytes to its
  own send cell s and to the partner's receive cell s. The send landing hands back the rows of the send buffer, at contents
  not chosen; the receive landing hands over region s of the receiver's buffer AT THE SENDER'S MESSAGE s (`Values.lean`:
  `msg0` .. `msg5`). At each step the device waits for its own send cell and its own receive cell.
  Order of what is owed: barrier units first (level 1), then receive s (level 2 + s); staging, local and send semaphores are
  at level 0 and are paid by the waiting device itself.
-/
module

public import proofs.«01_k».proof.Proof.Values
public import Idealize.ShloMosaic.Lib.Rounds
public import Idealize.ShloMosaic.Lib.Pipeline.RegionTalk
public import Idealize.ShloMosaic.Lib.Pipeline.Regions

@[expose] public section

set_option maxRecDepth 16384

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The pipeline library's algebra beside the protocol's (three kinds of duty: one per barrier partner). -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

/-! ## The regions that move -/

/-- The two halves of the key/value scratch, and the device's own heads of the keys and of the values. -/
abbrev kvD0 : Memref sig .tc .vmem S1024x8x128 .f32 := (kvM.slice (Rect.unit (s := S2x1024x8x128) ![0, 0, 0, 0] S1x1024x8x128.size inb_S2x1024x8x128_S1x1024x8x128_0_0_0_0) (fun _ => rfl)).squeeze S1024x8x128 squeezes_S1x1024x8x128_S1024x8x128
abbrev kvD1 : Memref sig .tc .vmem S1024x8x128 .f32 := (kvM.slice (Rect.unit (s := S2x1024x8x128) ![1, 0, 0, 0] S1x1024x8x128.size inb_S2x1024x8x128_S1x1024x8x128_1_0_0_0) (fun _ => rfl)).squeeze S1024x8x128 squeezes_S1x1024x8x128_S1024x8x128
abbrev kS (c : Dev nD) : Memref sig .tc .hbm S1024x8x128 .f32 := (kM.slice (Rect.unit (s := S1x1024x64x128) (k0_off1 c) S1x1024x8x128.size (k0_off1_inb c)) (fun _ => rfl)).squeeze S1024x8x128 squeezes_S1x1024x8x128_S1024x8x128
abbrev vS (c : Dev nD) : Memref sig .tc .hbm S1024x8x128 .f32 := (vM.slice (Rect.unit (s := S1x1024x64x128) (k0_off1 c) S1x1024x8x128.size (k0_off1_inb c)) (fun _ => rfl)).squeeze S1024x8x128 squeezes_S1x1024x8x128_S1024x8x128

/-- The first 512, 256, 128 rows of the send buffer. -/
abbrev sb512 : Memref sig .tc .vmem S512x1024 .bf16 := sbM.slice (Rect.unit (s := S512x1024) ![0, 0] S512x1024.size inb_S512x1024_S512x1024_0_0) (fun _ => rfl)
abbrev sb256 : Memref sig .tc .vmem S256x1024 .bf16 := sbM.slice (Rect.unit (s := S512x1024) ![0, 0] S256x1024.size inb_S512x1024_S256x1024_0_0) (fun _ => rfl)
abbrev sb128 : Memref sig .tc .vmem S128x1024 .bf16 := sbM.slice (Rect.unit (s := S512x1024) ![0, 0] S128x1024.size inb_S512x1024_S128x1024_0_0) (fun _ => rfl)
/-- The six regions of the receive buffer. -/
abbrev rb0 : Memref sig .tc .vmem S512x1024 .bf16 := rbM.slice (Rect.unit (s := S1792x1024) ![0, 0] S512x1024.size inb_S1792x1024_S512x1024_0_0) (fun _ => rfl)
abbrev rb1 : Memref sig .tc .vmem S256x1024 .bf16 := rbM.slice (Rect.unit (s := S1792x1024) ![512, 0] S256x1024.size inb_S1792x1024_S256x1024_512_0) (fun _ => rfl)
abbrev rb2 : Memref sig .tc .vmem S128x1024 .bf16 := rbM.slice (Rect.unit (s := S1792x1024) ![768, 0] S128x1024.size inb_S1792x1024_S128x1024_768_0) (fun _ => rfl)
abbrev rb3 : Memref sig .tc .vmem S128x1024 .bf16 := rbM.slice (Rect.unit (s := S1792x1024) ![896, 0] S128x1024.size inb_S1792x1024_S128x1024_896_0) (fun _ => rfl)
abbrev rb4 : Memref sig .tc .vmem S256x1024 .bf16 := rbM.slice (Rect.unit (s := S1792x1024) ![1024, 0] S256x1024.size inb_S1792x1024_S256x1024_1024_0) (fun _ => rfl)
abbrev rb5 : Memref sig .tc .vmem S512x1024 .bf16 := rbM.slice (Rect.unit (s := S1792x1024) ![1280, 0] S512x1024.size inb_S1792x1024_S512x1024_1280_0) (fun _ => rfl)

/-! ## The cells -/

abbrev barS : Sem sig := ⟨0, by decide⟩
abbrev kvS0 : DmaSem sig := ⟨4, by decide⟩
abbrev kvS1 : DmaSem sig := ⟨5, by decide⟩
abbrev snS0 : DmaSem sig := ⟨6, by decide⟩
abbrev snS1 : DmaSem sig := ⟨7, by decide⟩
abbrev snS2 : DmaSem sig := ⟨8, by decide⟩
abbrev snS3 : DmaSem sig := ⟨9, by decide⟩
abbrev snS4 : DmaSem sig := ⟨10, by decide⟩
abbrev snS5 : DmaSem sig := ⟨11, by decide⟩
abbrev rcS0 : DmaSem sig := ⟨12, by decide⟩
abbrev rcS1 : DmaSem sig := ⟨13, by decide⟩
abbrev rcS2 : DmaSem sig := ⟨14, by decide⟩
abbrev rcS3 : DmaSem sig := ⟨15, by decide⟩
abbrev rcS4 : DmaSem sig := ⟨16, by decide⟩
abbrev rcS5 : DmaSem sig := ⟨17, by decide⟩
abbrev barCell (c : Dev nD) : GSem nD τ sig := ((c : Thread nD τ), .reg barS)
/-- The cell of a DMA semaphore on device `c`. -/
abbrev dCell (s : DmaSem sig) (c : Dev nD) : GSem nD τ sig := ((c : Thread nD τ), .dma s)

/-! ## Points-tos -/

abbrev pt (c : Dev nD) (b : Ref sig .tc) (f : b.ty.Contents (Elt F)) : sProp 𝕄 := (Memref.whole b).view.loc (c : Thread nD τ) ↦{fullShare} f
/-- A memref's elements on device `c`, held in full at `f`. -/
abbrev pv {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f
/-- A memref's elements on device `c`, at contents not chosen. -/
def anyAt {sp : Space} {s : Shape} {e : EltTy} (M : Memref sig .tc sp s e) (c : Dev nD) : sProp 𝕄 := iprop(∃ f, pv M c f)
/-- A memref's elements on device `c`, at contents which read through it are `w`. -/
def got {sp : Space} {s : Shape} {e : EltTy} (M : Memref sig .tc sp s e) (c : Dev nD) (w : s.Idx → Elt F e) : sProp 𝕄 :=
  iprop(∃ f, ⌜M.view.read (Elt F) f = w⌝ ∗ pv M c f)

instance anyAt_storable {sp : Space} {s : Shape} {e : EltTy} (M : Memref sig .tc sp s e) (c : Dev nD) :
    BI.Storable (upEmb : UEmb _ 𝕄) (anyAt (F := F) M c) := by unfold anyAt; infer_instance
instance got_storable {sp : Space} {s : Shape} {e : EltTy} (M : Memref sig .tc sp s e) (c : Dev nD) (w : s.Idx → Elt F e) :
    BI.Storable (upEmb : UEmb _ 𝕄) (got (F := F) M c w) := by unfold got; infer_instance

/-- Contents just written through a memref read back as what was written. -/
theorem got_of_write {sp : Space} {s : Shape} {e : EltTy} (M : Memref sig .tc sp s e) (c : Dev nD) (fd : Buf (Elt F) (M.view.loc (c : Thread nD τ)))
    (w : s.Idx → Elt F e) : pv M c (M.view.write (Elt F) fd w Finset.univ) ⊢ (got M c w : sProp 𝕄) := by
  unfold got
  iintro H
  iexists (M.view.write (Elt F) fd w Finset.univ)
  isplitr
  · ipureintro; exact View.read_write_univ fd w
  · iexact H

/-- Contents written through a memref are any contents that read the same through it. -/
theorem pv_write_eq {sp : Space} {s : Shape} {e : EltTy} (M : Memref sig .tc sp s e) (c : Dev nD) (fd f : Buf (Elt F) (M.view.loc (c : Thread nD τ)))
    (w : s.Idx → Elt F e) (h : M.view.read (Elt F) f = w) : (pv M c (M.view.write (Elt F) fd w Finset.univ) : sProp 𝕄) = pv M c f := by
  refine pointsTo_congr fun i hi => ?_
  obtain ⟨x, -, rfl⟩ := Finset.mem_map.mp hi
  rw [View.write_emb_of_mem _ _ (Finset.mem_univ x), ← h, View.read_apply, cast_cast, cast_eq]

/-! ## The schedule -/

/-- What the partner along an axis pays with its barrier unit: the two regions of ITS receive buffer device `c` writes. -/
def barPay (c : Dev nD) (d : Fin 3) : sProp 𝕄 :=
  match d with
  | 0 => iprop(anyAt rb0 (xp c) ∗ anyAt rb5 (xp c) ∗ reached ER (dCell rcS0 (xp c)) 0 ∗ reached ER (dCell rcS5 (xp c)) 0)
  | 1 => iprop(anyAt rb1 (yp c) ∗ anyAt rb4 (yp c) ∗ reached ER (dCell rcS1 (yp c)) 0 ∗ reached ER (dCell rcS4 (yp c)) 0)
  | 2 => iprop(anyAt rb2 (zp c) ∗ anyAt rb3 (zp c) ∗ reached ER (dCell rcS2 (zp c)) 0 ∗ reached ER (dCell rcS3 (zp c)) 0)

/-- What the landing on DMA semaphore number `n` of device `c` hands over. -/
def dmaPay (c : Dev nD) (n : ℕ) : sProp 𝕄 :=
  match n with
  | 4 => iprop(pv kvD0 c (kvF m c) ∗ pv (kS c) c (V m c main_arg2))
  | 5 => iprop(pv kvD1 c (kvF m c) ∗ pv (vS c) c (V m c main_arg3))
  | 6 => anyAt sb512 c
  | 7 => anyAt sb256 c
  | 8 => anyAt sb128 c
  | 9 => anyAt sb128 c
  | 10 => anyAt sb256 c
  | 11 => anyAt sb512 c
  | 12 => got rb0 c (msg0 m (xp c))
  | 13 => got rb1 c (msg1 m (yp c))
  | 14 => got rb2 c (msg2 m (zp c))
  | 15 => got rb3 c (msg3 m (zp c))
  | 16 => got rb4 c (msg4 m (yp c))
  | 17 => got rb5 c (msg5 m (xp c))
  | _ => iprop(emp)

/-- How much a landing on DMA semaphore number `n` credits. -/
def dmaAmt (n : ℕ) : ℕ :=
  match n with
  | 4 => kvD0.view.dmaCredit
  | 5 => kvD1.view.dmaCredit
  | 6 => rb0.view.dmaCredit
  | 7 => rb1.view.dmaCredit
  | 8 => rb2.view.dmaCredit
  | 9 => rb3.view.dmaCredit
  | 10 => rb4.view.dmaCredit
  | 11 => rb5.view.dmaCredit
  | 12 => rb0.view.dmaCredit
  | 13 => rb1.view.dmaCredit
  | 14 => rb2.view.dmaCredit
  | 15 => rb3.view.dmaCredit
  | 16 => rb4.view.dmaCredit
  | 17 => rb5.view.dmaCredit
  | _ => 1

theorem dmaAmt_pos (n : ℕ) : 0 < dmaAmt n := by
  unfold dmaAmt
  split <;> first | exact View.dmaCredit_pos _ (by decide) | exact Nat.one_pos

/-- Round 0 only: three duties on a barrier cell, one on each cell of the kernel's own DMA semaphores. -/
def netRd : Rounds.Schedule (GSem nD τ sig) (Fin 3) 𝕄 where
  duties g r := if r = 0 ∧ g.1.2 = .tc then (match g.2 with | .reg _ => Finset.univ | .dma n => if 4 ≤ n.val then {0} else ∅) else ∅
  unitless _ := False
  amount g _ _ := match g.2 with | .reg _ => 1 | .dma n => dmaAmt n.val
  payload g _ d := match g.2 with | .reg _ => barPay g.1.1 d | .dma n => dmaPay m g.1.1 n.val
  amount_pos g _ _ _ := by
    split
    · exact Nat.one_pos
    · exact dmaAmt_pos _

instance netRd_payload_storable (g : GSem nD τ sig) (r : ℕ) (d : Fin 3) :
    BI.Storable (upEmb : UEmb _ 𝕄) ((netRd (F := F) m).payload g r d) := by
  show BI.Storable upEmb (match g.2 with | .reg _ => barPay g.1.1 d | .dma n => dmaPay m g.1.1 n.val)
  unfold barPay dmaPay
  (repeat' split) <;> infer_instance

section Sched

variable (c : Dev nD)

theorem duties_bar : (netRd (F := F) m).duties (barCell c) 0 = Finset.univ := by dsimp only [netRd]; exact if_pos ⟨rfl, rfl⟩
theorem duties_dma (s : DmaSem sig) (h : 4 ≤ s.val) : (netRd (F := F) m).duties (dCell s c) 0 = {0} := by
  dsimp only [netRd]; rw [if_pos ⟨rfl, rfl⟩, if_pos h]
theorem duties_later (g : GSem nD τ sig) : ∀ r, 1 ≤ r → (netRd (F := F) m).duties g r = ∅ :=
  fun r hr => by dsimp only [netRd]; rw [if_neg (fun h => by omega)]
theorem amount_bar (d : Fin 3) : (netRd (F := F) m).amount (barCell c) 0 d = 1 := rfl
theorem amount_dma (s : DmaSem sig) (d : Fin 3) : (netRd (F := F) m).amount (dCell s c) 0 d = dmaAmt s.val := rfl
theorem expect_bar : (netRd (F := F) m).expect (barCell c) 0 = 3 := by
  unfold Schedule.expect Schedule.amountOf
  rw [duties_bar]; simp only [amount_bar, Finset.sum_const, Finset.card_univ, Fintype.card_fin, smul_eq_mul, mul_one]
theorem expect_dma (s : DmaSem sig) (h : 4 ≤ s.val) : (netRd (F := F) m).expect (dCell s c) 0 = dmaAmt s.val := by
  unfold Schedule.expect Schedule.amountOf; rw [duties_dma m c s h, Finset.sum_singleton, amount_dma]
theorem payload_bar (d : Fin 3) : (netRd (F := F) m).payload (barCell c) 0 d = barPay c d := rfl
theorem payload_dma (s : DmaSem sig) (d : Fin 3) : (netRd (F := F) m).payload (dCell s c) 0 d = dmaPay m c s.val := rfl
theorem rest_bar : bigSep ((netRd (F := F) m).duties (barCell c) 0 \ ∅) (fun d => (netRd (F := F) m).payload (barCell c) 0 d)
    = iprop(barPay c 0 ∗ barPay c 1 ∗ barPay c 2) := by
  rw [Finset.sdiff_empty, duties_bar, show (Finset.univ : Finset (Fin 3)) = insert 0 (insert 1 {2}) from by decide,
    bigSep_insert (by decide), bigSep_insert (by decide), bigSep_singleton]
  rfl
theorem rest_dma (s : DmaSem sig) (h : 4 ≤ s.val) :
    bigSep ((netRd (F := F) m).duties (dCell s c) 0 \ ∅) (fun d => (netRd (F := F) m).payload (dCell s c) 0 d) = dmaPay m c s.val := by
  rw [Finset.sdiff_empty, duties_dma m c s h, bigSep_singleton, payload_dma]

end Sched

/-! ## What each device owes; the levels -/

/-- What is still owed once the copies of steps below `s` are enqueued. -/
abbrev Ow6 (c : Dev nD) : CellTallies nD τ sig Unit := 0
abbrev Ow5 (c : Dev nD) : CellTallies nD τ sig Unit := Ow6 c + tallyAt (dCell rcS5 (xp c)) () rb5.view.dmaCredit
abbrev Ow4 (c : Dev nD) : CellTallies nD τ sig Unit := Ow5 c + tallyAt (dCell rcS4 (yp c)) () rb4.view.dmaCredit
abbrev Ow3 (c : Dev nD) : CellTallies nD τ sig Unit := Ow4 c + tallyAt (dCell rcS3 (zp c)) () rb3.view.dmaCredit
abbrev Ow2 (c : Dev nD) : CellTallies nD τ sig Unit := Ow3 c + tallyAt (dCell rcS2 (zp c)) () rb2.view.dmaCredit
abbrev Ow1 (c : Dev nD) : CellTallies nD τ sig Unit := Ow2 c + tallyAt (dCell rcS1 (yp c)) () rb1.view.dmaCredit
abbrev Ow0 (c : Dev nD) : CellTallies nD τ sig Unit := Ow1 c + tallyAt (dCell rcS0 (xp c)) () rb0.view.dmaCredit
/-- And before the signals. -/
abbrev OwZ (c : Dev nD) : CellTallies nD τ sig Unit := Ow0 c + tallyAt (barCell (zp c)) () 1
abbrev OwY (c : Dev nD) : CellTallies nD τ sig Unit := OwZ c + tallyAt (barCell (yp c)) () 1
/-- What device `c` owes at launch. -/
def O₀ (c : Dev nD) : CellTallies nD τ sig Unit := OwY c + tallyAt (barCell (xp c)) () 1

def L (g : GSem nD τ sig) : Finset Unit := if g.1.2 = .tc then {()} else ∅
/-- Barrier cells at 1, receive cell `s` at `2 + s`, the rest at 0. -/
def lv (g : GSem nD τ sig) (_ : Unit) : ℕ := match g.2 with | .reg _ => 1 | .dma n => if 12 ≤ n.val then n.val - 10 else 0

theorem L_of_ne (g : GSem nD τ sig) (h : g.1.2 ≠ .tc) : L g = ∅ := if_neg h
theorem L_tc (c : Dev nD) (sm : SemLoc sig) : L ((c : Thread nD τ), sm) = {()} := if_pos rfl

/-- All that is owed lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  have : 0 < O g u + O' g u := hg
  rcases Nat.eq_zero_or_pos (O g u) with h0 | h0
  · exact h' g u (by omega)
  · exact h g u h0
theorem above_tally {n : ℕ} (c : Dev nD) (sm : SemLoc sig) (k : ℕ) (h : n < lv ((c : Thread nD τ), sm) ()) : Above n (tallyAt ((c : Thread nD τ), sm) () k) :=
  fun g u hg => by
    rw [tallyAt_apply] at hg
    by_cases hh : g = ((c : Thread nD τ), sm) ∧ u = ()
    · rw [hh.1, L_tc]; exact ⟨Finset.mem_singleton_self _, h⟩
    · rw [if_neg hh] at hg; exact absurd hg (Nat.lt_irrefl 0)
theorem above_mono {n n' : ℕ} (h : n' ≤ n) {O : CellTallies nD τ sig Unit} (hO : Above n O) : Above n' O := fun g u hg => ⟨(hO g u hg).1, lt_of_le_of_lt h (hO g u hg).2⟩

theorem above6 (c : Dev nD) (n : ℕ) : Above n (Ow6 c) := above_zero n
theorem above5 (c : Dev nD) : Above 6 (Ow5 c) := above_add (above_mono (by decide) (above6 c 7)) (above_tally _ _ _ (by show 6 < 7; decide))
theorem above4 (c : Dev nD) : Above 5 (Ow4 c) := above_add (above_mono (by decide) (above5 c)) (above_tally _ _ _ (by show 5 < 6; decide))
theorem above3 (c : Dev nD) : Above 4 (Ow3 c) := above_add (above_mono (by decide) (above4 c)) (above_tally _ _ _ (by show 4 < 5; decide))
theorem above2 (c : Dev nD) : Above 3 (Ow2 c) := above_add (above_mono (by decide) (above3 c)) (above_tally _ _ _ (by show 3 < 4; decide))
theorem above1 (c : Dev nD) : Above 2 (Ow1 c) := above_add (above_mono (by decide) (above2 c)) (above_tally _ _ _ (by show 2 < 3; decide))
theorem above0 (c : Dev nD) : Above 1 (Ow0 c) := above_add (above_mono (by decide) (above1 c)) (above_tally _ _ _ (by show 1 < 2; decide))
theorem above_O₀ (c : Dev nD) : Above 0 (O₀ c) :=
  above_add (above_add (above_add (above_mono (by decide) (above0 c)) (above_tally _ _ _ Nat.one_pos)) (above_tally _ _ _ Nat.one_pos)) (above_tally _ _ _ Nat.one_pos)

/-- A wait at a cell is allowed when all that is owed lies above its level. -/
theorem mayWait (c : Dev nD) (sm : SemLoc sig) (n : ℕ) (hn : lv ((c : Thread nD τ), sm) () = n) {O : CellTallies nD τ sig Unit} (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hn.le)
    (fun g u hg => (h g u hg).2)

/-! ## The protocol's ghost state -/

/-- The barrier cells, and every device's fourteen cells of the kernel's own DMA semaphores. -/
def barEmb : Dev nD ↪ GSem nD τ sig := ⟨fun c => barCell c, fun a b h => by injection h with h1; injection h1⟩
def osem (k : Fin 14) : SemLoc sig := .dma ⟨4 + k.val, by have := k.isLt; show _ < 18; omega⟩
def scEmb : Dev nD × Fin 14 ↪ GSem nD τ sig :=
  ⟨fun p => ((p.1 : Thread nD τ), osem p.2), fun a b h => by
    have h1 := congrArg Prod.fst h; have h2 := congrArg Prod.snd h
    refine Prod.ext (by injection h1) (Fin.ext ?_)
    have h3 : (osem a.2) = osem b.2 := h2
    unfold osem at h3
    injection h3 with h3
    have h4 : 4 + a.2.val = 4 + b.2.val := congrArg Fin.val h3
    omega⟩
def barCells : Finset (GSem nD τ sig) := Finset.univ.map barEmb
def scCells : Finset (GSem nD τ sig) := Finset.univ.map scEmb
theorem bar_mem (c : Dev nD) : barCell c ∈ barCells ∪ scCells := Finset.mem_union_left _ (Finset.mem_map_of_mem barEmb (Finset.mem_univ c))
theorem dma_mem (c : Dev nD) (k : Fin 14) : ((c : Thread nD τ), osem k) ∈ barCells ∪ scCells :=
  Finset.mem_union_right _ (Finset.mem_map_of_mem scEmb (Finset.mem_univ (c, k)))

/-- Every cell's invariant, at the names `K` the launch allocated them at. Persistent. -/
def invs (K : GSem nD τ sig → ℕ) : sProp 𝕄 := bigSep (barCells ∪ scCells) fun g => cellInv ER (netRd m) (K g) g
instance invs_persistent (K : GSem nD τ sig → ℕ) : BI.Persistent (invs m K) := by unfold invs; infer_instance
theorem inv_at (K : GSem nD τ sig → ℕ) {g : GSem nD τ sig} (h : g ∈ barCells ∪ scCells) : (invs m K : sProp 𝕄) ⊢ cellInv ER (netRd m) (K g) g := by
  unfold invs; exact bigSep_elim h

/-- The duty tokens device `c` pays with: its partners' barrier cells, its own local and send cells, its partners' receive
    cells. -/
def tokens (c : Dev nD) : sProp 𝕄 :=
  iprop(dutyTok ER (barCell (xp c)) 0 0 ∗ dutyTok ER (barCell (yp c)) 0 1 ∗ dutyTok ER (barCell (zp c)) 0 2
    ∗ dutyTok ER (dCell kvS0 c) 0 0 ∗ dutyTok ER (dCell kvS1 c) 0 0
    ∗ dutyTok ER (dCell snS0 c) 0 0 ∗ dutyTok ER (dCell snS1 c) 0 0 ∗ dutyTok ER (dCell snS2 c) 0 0 ∗ dutyTok ER (dCell snS3 c) 0 0 ∗ dutyTok ER (dCell snS4 c) 0 0 ∗ dutyTok ER (dCell snS5 c) 0 0
    ∗ dutyTok ER (dCell rcS0 (xp c)) 0 0 ∗ dutyTok ER (dCell rcS1 (yp c)) 0 0 ∗ dutyTok ER (dCell rcS2 (zp c)) 0 0 ∗ dutyTok ER (dCell rcS3 (zp c)) 0 0 ∗ dutyTok ER (dCell rcS4 (yp c)) 0 0 ∗ dutyTok ER (dCell rcS5 (xp c)) 0 0)

/-- The credit it waits with: three barrier units, and each receive cell's bytes. -/
def credits (c : Dev nD) : sProp 𝕄 :=
  iprop(cred (tallyAt (barCell c) () 3)
    ∗ cred (tallyAt (dCell rcS0 c) () rb0.view.dmaCredit) ∗ cred (tallyAt (dCell rcS1 c) () rb1.view.dmaCredit) ∗ cred (tallyAt (dCell rcS2 c) () rb2.view.dmaCredit) ∗ cred (tallyAt (dCell rcS3 c) () rb3.view.dmaCredit) ∗ cred (tallyAt (dCell rcS4 c) () rb4.view.dmaCredit) ∗ cred (tallyAt (dCell rcS5 c) () rb5.view.dmaCredit))

/-- What device `c` carries from the launch to the kernel: the names; its position on its barrier cell; the right to open its
    fourteen dormant cells; that round 0 of its partners' barrier cells is reached; its duty tokens. -/
def ghost (K : GSem nD τ sig → ℕ) (c : Dev nD) : sProp 𝕄 :=
  iprop(invs m K ∗ atPos ER (barCell c) 0 ∅ 0 ∗ bigSep Finset.univ (fun k : Fin 14 => openTok ER ((c : Thread nD τ), osem k))
    ∗ (reached ER (barCell (xp c)) 0 ∗ reached ER (barCell (yp c)) 0 ∗ reached ER (barCell (zp c)) 0) ∗ tokens c)

/-- With the credit: what rides the thread state. -/
def start (c : Dev nD) : sProp 𝕄 := iprop((∃ K, ghost m K c) ∗ credits c ∗ ∃ r, prngReg c r)

/-- Once the fourteen cells are open: positions and reached rounds of each. -/
def opened (K : GSem nD τ sig → ℕ) (c : Dev nD) : sProp 𝕄 :=
  iprop(invs m K ∗ atPos ER (barCell c) 0 ∅ 0
    ∗ bigSep Finset.univ (fun k : Fin 14 => iprop(atPos ER ((c : Thread nD τ), osem k) 0 ∅ 0 ∗ reached ER ((c : Thread nD τ), osem k) 0))
    ∗ (reached ER (barCell (xp c)) 0 ∗ reached ER (barCell (yp c)) 0 ∗ reached ER (barCell (zp c)) 0) ∗ tokens c)

/-- A cell whose round is over gives its counter back, at zero. -/
theorem close (κ : ℕ) (g : GSem nD τ sig) :
    iprop(cellInv ER (netRd m) κ g ∗ atPos ER g (0 + 1) ∅ 0) ⊢ (|={Set.univ}=> semVal g 0 : sProp 𝕄) :=
  Rounds.cell_close ER (netRd m) (Set.mem_univ κ) id (duties_later m g)

abbrev 𝒱₀ : Variants := Variants.none

end Cert.KernelIdeal.Net

end
-- ==== Proof.Steps.lean ====
/-
  One step of the protocol at a time: a wait on one of the kernel's own semaphores, a local copy, an addressed copy, a signal
  and the wait on the barrier, each from what the device holds to what it holds after; and the buffers cut into the regions
  that move and put together again.
-/
module

public import proofs.«01_k».proof.Proof.Proto
public import Idealize.ShloMosaic.Lib.Tactic

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD) (K : GSem nD τ sig → ℕ)

/-- What device `c` owes, whatever it has waited on. -/
def ow (O : CellTallies nD τ sig Unit) : sProp 𝕄 := iprop(∃ W, owes (c : Thread nD τ) O W)
/-- A cell of the kernel's own semaphores is open, nothing received. -/
abbrev fresh (s : DmaSem sig) : sProp 𝕄 := atPos ER (dCell s c) 0 ∅ 0
/-- Its one round is over. -/
abbrev done (s : DmaSem sig) : sProp 𝕄 := atPos ER (dCell s c) (0 + 1) ∅ 0

/-- Every cell of the kernel's own semaphores is one of the protocol's. -/
theorem own_mem (s : DmaSem sig) (h : 4 ≤ s.val) : dCell s c ∈ barCells ∪ scCells := by
  have e : dCell s c = ((c : Thread nD τ), osem ⟨s.val - 4, by have : s.val < 18 := s.isLt; omega⟩) := by
    unfold osem
    refine Prod.ext rfl (congrArg SemLoc.dma (Fin.ext ?_))
    show s.val = 4 + (s.val - 4); omega
  rw [e]; exact dma_mem c _

/-- A wait for a whole landing: what the landing hands over comes with it. -/
theorem wait_step {α : Type} {Q : α → sProp 𝕄} (s : DmaSem sig) (h4 : 4 ≤ s.val) (n : ℕ) (hn : lv (dCell s c) () = n) {O : CellTallies nD τ sig Unit} (hO : Above n O)
    {sp sp' : Space} {sh sh' : Shape} {e e' : EltTy} {src : Memref sig .tc sp' sh' e'} {dst : Memref sig .tc sp sh e}
    {hsrc : src.view.WordExact} {hdst : dst.view.WordExact} {k : PUnit → Prog (TpuEff nD τ sig (Elt F) Λ₀ .tc) α}
    (hk : dst.view.dmaCredit = dmaAmt s.val) :
    iprop(invs m K ∗ levAts L lv ∗ cred (tallyAt (dCell s c) () (dmaAmt s.val)) ∗ ow c O ∗ fresh c s)
      ⊢ iprop(((ow c O ∗ done c s ∗ dmaPay m c s.val) -∗ wp frame (wpE (defs₀ (F := F)) 𝒱₀ c none) Set.univ (k ⟨⟩) Q)
        -∗ wp frame (wpE (defs₀ (F := F)) 𝒱₀ c none) Set.univ (.op (.waitDma2 s src dst hsrc hdst) k) Q) := by
  unfold ow
  rw [← hk]
  iintro ⟨#HI, #HL, Hc, ⟨%W, HO⟩, Hat⟩
  iintro Hk
  ihave HC := (inv_at m K (own_mem c s h4)) $$ HI
  iapply (Rounds.wp_wait_rest_token 𝒱₀ ER (netRd m) (c : Thread nD τ) none (κ := K (dCell s c)) (wpE_waitDma2_eq 𝒱₀ (c : Thread nD τ) none Set.univ)
    (Set.mem_univ _) () (O := O) (W := W) (R := 0) (m := 0) (T := ∅) (((Nat.zero_add _).trans hk).trans (expect_dma m c s h4).symm)) $$ [HC Hc HO Hat]
  · isplitl [HC]; · iexact HC
    isplitl [Hc]; · iexact Hc
    isplitl [HO]; · iexact HO
    isplitr
    · iapply (mayWait c (.dma s) n hn hO); iexact HL
    · iexact Hat
  iintro ⟨HO, Hat, -, Hp⟩
  ihave Hp := (Entails.of_eq (rest_dma m c s h4)) $$ Hp
  iapply Hk
  isplitl [HO]; · iexists _; iexact HO
  isplitl [Hat]; · iexact Hat
  iexact Hp

/-- A local copy. -/
theorem copy_step {α : Type} {Q : α → sProp 𝕄} (s : DmaSem sig) (h4 : 4 ≤ s.val)
    {sp sp' : Space} {sh : Shape} {e : EltTy} {src : Memref sig .tc sp' sh e} {dst : Memref sig .tc sp sh e}
    {hsrc : src.view.WordExact} {hdst : dst.view.WordExact} {hsem : DmaTarget.Typed (nD := nD) (τ := τ) (p := .tc) sp' (.dma s) (.here dst)} {k : PUnit → Prog (TpuEff nD τ sig (Elt F) Λ₀ .tc) α}
    {fs : Buf (Elt F) (src.view.loc (c : Thread nD τ))} {fd : Buf (Elt F) (dst.view.loc (c : Thread nD τ))}
    (hk : dst.view.dmaCredit = dmaAmt s.val)
    (hpay : iprop(pv dst c (dst.view.write (Elt F) fd (src.view.read (Elt F) fs) Finset.univ) ∗ pv src c fs) ⊢ dmaPay m c s.val) :
    iprop(invs m K ∗ pv src c fs ∗ pv dst c fd ∗ dutyTok ER (dCell s c) 0 0 ∗ reached ER (dCell s c) 0)
      ⊢ iprop((cred (tallyAt (dCell s c) () (dmaAmt s.val)) -∗ wp frame (wpE (defs₀ (F := F)) 𝒱₀ c none) Set.univ (k ⟨⟩) Q)
        -∗ wp frame (wpE (defs₀ (F := F)) 𝒱₀ c none) Set.univ (.op (.enqueueDma src (.here dst) (.dma s) hsrc hdst hsem) k) Q) := by
  rw [← hk]
  iintro ⟨#HI, Hs, Hd, Ht, Hr⟩
  ihave HC := (inv_at m K (own_mem c s h4)) $$ HI
  iintro Hk
  iapply (Rounds.wp_copy_pointsTo 𝒱₀ ER (netRd m) (c : Thread nD τ) none (src := src) (dst := dst) (sem := .dma s) (q := fullShare) (fs := fs) (fd := fd)
    (r := 0) (d := 0) (κ := K (dCell s c)) (by rw [duties_dma m c s h4]; exact Finset.mem_singleton_self _) () dst.view.dmaCredit rfl
    ((amount_dma m c s 0).trans hk.symm) hpay) $$ [HC Hs Hd Ht Hr]
  · isplitl [HC]; · iexact HC
    isplitl [Hs]; · iexact Hs
    isplitl [Hd]; · iexact Hd
    isplitl [Ht]; · iexact Ht
    iexact Hr
  iexact Hk

/-- An addressed copy to device `cp`: the source rows leave to come back with the send landing, the destination region leaves
    to go to `cp` at what is sent. -/
theorem send_step {α : Type} {Q : α → sProp 𝕄} (c' cp : Dev nD) (ec : c' = cp) (sS sR : DmaSem sig) (h4 : 4 ≤ sS.val) (h4' : 4 ≤ sR.val)
    {sp sp' : Space} {sh : Shape} {e : EltTy} {src : Memref sig .tc sp' sh e} {dst : Memref sig .tc sp sh e} {hsc : dst.view.ref.isScScratch = false}
    {hsrc : src.view.WordExact} {hdst : dst.view.WordExact} {hsem : DmaTarget.Typed (p := .tc) sp' (.dma sR) (.remote (Dev.tc c') dst (.dma sS) hsc)} {k : PUnit → Prog (TpuEff nD τ sig (Elt F) Λ₀ .tc) α}
    {w : sh.Idx → Elt F e} {O₁ : CellTallies nD τ sig Unit} (O : CellTallies nD τ sig Unit)
    (hO : O₁ = O + tallyAt (dCell sR cp) () dst.view.dmaCredit)
    (hkS : dst.view.dmaCredit = dmaAmt sS.val) (hkR : dst.view.dmaCredit = dmaAmt sR.val)
    (hpS : dmaPay m c sS.val = anyAt src c) (hpR : dmaPay m cp sR.val = got dst cp w) :
    iprop(invs m K ∗ got src c w ∗ anyAt dst cp ∗ ow c O₁ ∗ dutyTok ER (dCell sS c) 0 0 ∗ reached ER (dCell sS c) 0
        ∗ dutyTok ER (dCell sR cp) 0 0 ∗ reached ER (dCell sR cp) 0)
      ⊢ iprop(((cred (tallyAt (dCell sS c) () (dmaAmt sS.val)) ∗ ow c O) -∗ wp frame (wpE (defs₀ (F := F)) 𝒱₀ c none) Set.univ (k ⟨⟩) Q)
        -∗ wp frame (wpE (defs₀ (F := F)) 𝒱₀ c none) Set.univ (.op (.enqueueDma src (.remote (Dev.tc c') dst (.dma sS) hsc) (.dma sR) hsrc hdst hsem) k) Q) := by
  subst ec
  unfold ow
  rw [← hkS]
  iintro ⟨#HI, Hs, Hd, ⟨%W, HO⟩, Ht, Hr, Ht', Hr'⟩
  ihave Hs := (Entails.of_eq (show got src c w = iprop(∃ f, ⌜src.view.read (Elt F) f = w⌝ ∗ pv src c f) from rfl)) $$ Hs
  icases Hs with ⟨%fs, %hw, Hs⟩
  ihave HC := (inv_at m K (own_mem c sS h4)) $$ HI
  ihave HC' := (inv_at m K (own_mem c' sR h4')) $$ HI
  ihave Hd := (Entails.of_eq (show anyAt dst c' = iprop(∃ f, pv dst c' f) from rfl)) $$ Hd
  icases Hd with ⟨%fd, Hd⟩
  iintro Hk
  iapply (Rounds.wp_send_pointsTo 𝒱₀ ER (netRd m) (c : Thread nD τ) none (c' := (c' : Thread nD τ)) (src := src) (dst := dst) (sS := .dma sS) (sem := .dma sR)
    (q := fullShare) (fs := fs) (fd := fd) (r₁ := 0) (r₂ := 0) (d₁ := 0) (d₂ := 0) (κ₁ := K (dCell sS c)) (κ₂ := K (dCell sR c'))
    (by rw [duties_dma m c sS h4]; exact Finset.mem_singleton_self _) (by rw [duties_dma m c' sR h4']; exact Finset.mem_singleton_self _) () () dst.view.dmaCredit rfl
    ((amount_dma m c sS 0).trans hkS.symm) ((amount_dma m c' sR 0).trans hkR.symm) O hO (W := W)
    (by show pv src c fs ⊢ dmaPay m c sS.val
        rw [hpS]; unfold anyAt; iintro H; iexists fs; iexact H)
    (by show pv dst c' (dst.view.write (Elt F) fd (src.view.read (Elt F) fs) Finset.univ) ⊢ dmaPay m c' sR.val
        rw [hpR, ← hw]; exact got_of_write dst c' fd _)) $$ [HC HC' Hs Hd HO Ht Hr Ht' Hr']
  · isplitl [HC]; · iexact HC
    isplitl [HC']; · iexact HC'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

/-- A barrier unit to device `cp`, paid with what device `c` hands it. -/
theorem signal_step {α : Type} {Q : α → sProp 𝕄} (c' cp : Dev nD) (ec : c' = cp) (d : Fin 3) {O₁ : CellTallies nD τ sig Unit} (O : CellTallies nD τ sig Unit)
    (hO : O₁ = O + tallyAt (barCell cp) () 1) {z : ℤ} (hz : z = 1) {k : PUnit → Prog (TpuEff nD τ sig (Elt F) Λ₀ .tc) α} :
    iprop(invs m K ∗ ow c O₁ ∗ dutyTok ER (barCell cp) 0 d ∗ barPay cp d ∗ reached ER (barCell cp) 0)
      ⊢ iprop((ow c O -∗ wp frame (wpE (defs₀ (F := F)) 𝒱₀ c none) Set.univ (k ⟨⟩) Q)
        -∗ wp frame (wpE (defs₀ (F := F)) 𝒱₀ c none) Set.univ (.op (.semSignal (c' : Thread nD τ) barS z) k) Q) := by
  subst ec; subst hz
  unfold ow
  iintro ⟨#HI, ⟨%W, HO⟩, Ht, Hp, Hr⟩
  ihave HC := (inv_at m K (bar_mem c')) $$ HI
  ihave Hp := (Entails.of_eq (payload_bar m c' d).symm) $$ Hp
  iintro Hk
  iapply (Rounds.wp_signal 𝒱₀ ER (netRd m) (c : Thread nD τ) none (dst := (c' : Thread nD τ)) (sem := barS) (r := 0) (d := d) (κ := K (barCell c'))
    (by rw [duties_bar]; exact Finset.mem_univ _) (amount_bar m c' d) () O hO (W := W)) $$ [HC HO Ht Hp Hr]
  · isplitl [HC]; · iexact HC
    isplitl [HO]; · iexact HO
    isplitl [Ht]; · iexact Ht
    isplitl [Hp]; · iexact Hp
    iexact Hr
  iintro HO
  iapply Hk
  iexists _; iexact HO

/-- The wait for the partners' three units. -/
theorem barrier_step {α : Type} {Q : α → sProp 𝕄} {z : ℤ} (hz : z = 3) {k : PUnit → Prog (TpuEff nD τ sig (Elt F) Λ₀ .tc) α} :
    iprop(invs m K ∗ levAts L lv ∗ cred (tallyAt (barCell c) () 3) ∗ ow c (Ow0 c) ∗ atPos ER (barCell c) 0 ∅ 0)
      ⊢ iprop(((ow c (Ow0 c) ∗ atPos ER (barCell c) (0 + 1) ∅ 0 ∗ barPay c 0 ∗ barPay c 1 ∗ barPay c 2) -∗ wp frame (wpE (defs₀ (F := F)) 𝒱₀ c none) Set.univ (k ⟨⟩) Q)
        -∗ wp frame (wpE (defs₀ (F := F)) 𝒱₀ c none) Set.univ (.op (.semWait barS z) k) Q) := by
  subst hz
  unfold ow
  iintro ⟨#HI, #HL, Hc, ⟨%W, HO⟩, Hat⟩
  iintro Hk
  ihave HC := (inv_at m K (bar_mem c)) $$ HI
  iapply (Rounds.wp_wait_rest_token 𝒱₀ ER (netRd m) (c : Thread nD τ) none (κ := K (barCell c)) (wpE_semWait_eq 𝒱₀ (c : Thread nD τ) none Set.univ)
    (Set.mem_univ _) () (O := Ow0 c) (W := W) (R := 0) (m := 0) (T := ∅) ((Nat.zero_add 3).trans (expect_bar m c).symm)) $$ [HC Hc HO Hat]
  · isplitl [HC]; · iexact HC
    isplitl [Hc]; · iexact Hc
    isplitl [HO]; · iexact HO
    isplitr
    · iapply (mayWait c (.reg barS) 1 rfl (above0 c)); iexact HL
    · iexact Hat
  iintro ⟨HO, Hat, -, Hp⟩
  ihave Hp := (Entails.of_eq (rest_bar m c)) $$ Hp
  iapply Hk
  isplitl [HO]; · iexists _; iexact HO
  isplitl [Hat]; · iexact Hat
  iexact Hp

/-! ## Regions of buffers -/

/-- The elements of a buffer outside a memref's, held in full at contents not chosen. -/
def restOf {sp : Space} {s : Shape} {e : EltTy} (M : Memref sig .tc sp s e) : sProp 𝕄 :=
  iprop(∃ f : Buf (Elt F) (M.view.loc (c : Thread nD τ)), M.view.loc (c : Thread nD τ) ↦[Finset.univ \ M.view.set]{fullShare} f)
/-- The same at contents `f`. -/
abbrev restAt {sp : Space} {s : Shape} {e : EltTy} (M : Memref sig .tc sp s e) (f : Buf (Elt F) (M.view.loc (c : Thread nD τ))) : sProp 𝕄 :=
  M.view.loc (c : Thread nD τ) ↦[Finset.univ \ M.view.set]{fullShare} f

theorem take_region {sp : Space} {s : Shape} {e : EltTy} (M : Memref sig .tc sp s e) (f : Buf (Elt F) (M.view.loc (c : Thread nD τ))) :
    (M.view.loc (c : Thread nD τ) ↦{fullShare} f) ⊢ (iprop(pv M c f ∗ restOf c M) : sProp 𝕄) := by
  unfold restOf
  iintro H
  ihave H := (pointsTo_split_subset (Finset.subset_univ M.view.set)).1 $$ H
  icases H with ⟨H1, H2⟩
  isplitl [H1]; · iexact H1
  iexists _; iexact H2
theorem back_region {sp : Space} {s : Shape} {e : EltTy} (M : Memref sig .tc sp s e) :
    iprop(anyAt M c ∗ restOf c M) ⊢ (iprop(∃ f : Buf (Elt F) (M.view.loc (c : Thread nD τ)), M.view.loc (c : Thread nD τ) ↦{fullShare} f) : sProp 𝕄) := by
  unfold restOf anyAt
  iintro ⟨⟨%g, H1⟩, ⟨%f, H2⟩⟩
  iexists _
  iapply (pointsTo_join_subset (Finset.subset_univ M.view.set))
  isplitl [H1]; · iexact H1
  iexact H2
/-- A region whose contents are known read back through it. -/
theorem got_any {sp : Space} {s : Shape} {e : EltTy} (M : Memref sig .tc sp s e) (w : s.Idx → Elt F e) : got M c w ⊢ (anyAt M c : sProp 𝕄) := by
  unfold got anyAt
  iintro ⟨%f, -, H⟩
  iexists f; iexact H

/-- A load of a region whose contents are known. -/
theorem load_got {α : Type} {Q : α → sProp 𝕄} {cs : CoreSpace} {s : Shape} {e : EltTy} {M : Memref sig .tc cs s e} {r : Rect s} {hl : M.view.LoadsAt r.toLoadRect}
    (hs : ∀ a, r.stride a = 1) {w : r.shape.Idx → Elt F e} {k : (r.shape.Idx → Elt F e) → Prog (TpuEff nD τ sig (Elt F) Λ₀ .tc) α} :
    got (M.slice r hs) c w
      ⊢ iprop((got (M.slice r hs) c w -∗ wp frame (wpE (defs₀ (F := F)) 𝒱₀ c none) Set.univ (k w) Q)
        -∗ wp frame (wpE (defs₀ (F := F)) 𝒱₀ c none) Set.univ (.op (.load M r.toLoadRect hl) k) Q) := by
  unfold got
  iintro ⟨%f, %hw, H⟩
  iintro Hk
  have hsub : M.view.setOn r.toLoadRect.set ⊆ (M.slice r hs).view.set := by
    rw [show (M.slice r hs).view.set = r.set.map M.view.emb from View.set_slice M.view r]; exact Finset.Subset.refl _
  iapply (wp_load 𝒱₀ (c : Thread nD τ) none Set.univ (m := M) (S := (M.slice r hs).view.set) hsub) $$ H
  iintro H
  have e1 : M.view.readAt (Elt F) r.toLoadRect f = w := hw
  rw [e1]
  iapply Hk
  iexists f
  isplitr; · ipureintro; exact hw
  iexact H

/-- The first rows of the send buffer, just stored: they leave as the source of a copy, the rest stays. -/
theorem store_send {α : Type} {Q : α → sProp 𝕄} {r : Rect S512x1024} (hs : ∀ a, r.stride a = 1) {w : r.shape.Idx → Elt F .bf16}
    {hx : (sbM.access r).Stores Finset.univ} {hm : Finset.univ = Finset.univ ∨ ∀ a, r.stride a = 1}
    {k : PUnit → Prog (TpuEff nD τ sig (Elt F) Λ₀ .tc) α} {f : Buf (Elt F) ((Memref.whole cc0_scratch1).view.loc (c : Thread nD τ))} :
    pt c cc0_scratch1 f
      ⊢ iprop(((got (sbM.slice r hs) c w ∗ restOf c (sbM.slice r hs)) -∗ wp frame (wpE (defs₀ (F := F)) 𝒱₀ c none) Set.univ (k ⟨⟩) Q)
        -∗ wp frame (wpE (defs₀ (F := F)) 𝒱₀ c none) Set.univ (.op (.store sbM r w Finset.univ hx hm) k) Q) := by
  iintro H Hk
  iapply (wp_store 𝒱₀ (c : Thread nD τ) none Set.univ (m := sbM) (r := r) (Finset.subset_univ _)) $$ H
  iintro H
  iapply Hk
  ihave H := (take_region c (sbM.slice r hs) _) $$ H
  icases H with ⟨H1, H2⟩
  isplitl [H1]
  · iapply (got_of_write (sbM.slice r hs) c f w); iexact H1
  · iexact H2

/-- A store to the result's staging buffer. -/
theorem store_out {α : Type} {Q : α → sProp 𝕄} {r : Rect S1024x1024} {w : r.shape.Idx → Elt F .f32}
    {hx : (outM.access r).Stores Finset.univ} {hm : Finset.univ = Finset.univ ∨ ∀ a, r.stride a = 1}
    {k : PUnit → Prog (TpuEff nD τ sig (Elt F) Λ₀ .tc) α} {f : OutT F} :
    (pt c cc0_stg3_0 f : sProp 𝕄)
      ⊢ iprop((pt c cc0_stg3_0 (stOut r f w) -∗ wp frame (wpE (defs₀ (F := F)) 𝒱₀ c none) Set.univ (k ⟨⟩) Q)
        -∗ wp frame (wpE (defs₀ (F := F)) 𝒱₀ c none) Set.univ (.op (.store outM r w Finset.univ hx hm) k) Q) :=
  wp_store 𝒱₀ (c : Thread nD τ) none Set.univ (m := outM) (r := r) (Finset.subset_univ _)

end Cert.KernelIdeal.Net

end
-- ==== Proof.Body.lean ====
/-
  The stretches of the kernel that talk to the other devices or copy: from what the device holds before to what it holds
  after, the contents of the result's staging buffer named by `Values.lean`.
-/
module

public import proofs.«01_k».proof.Proof.Steps

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD) (K : GSem nD τ sig → ℕ)

/-- The send buffer, at contents not chosen. -/
abbrev anySb : sProp 𝕄 := iprop(∃ f : Buf (Elt F) ((Memref.whole cc0_scratch1).view.loc (c : Thread nD τ)), pt c cc0_scratch1 f)

theorem part1_run (Kt : (Σ' (d0 : Dev nD) (v2 : BitVec 32) (v19 : BitVec 32) (v37 : BitVec 32) (v39 : BitVec 32), BitVec 32) → sProp 𝕄) :
    iprop(∀ w2 w19 w37, Kt ⟨c, w2, w19, w37, w39 c, 1#32⟩)
      ⊢ wp frame (wpE (defs₀ (F := F)) 𝒱₀ c none) Set.univ (k0_part1 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 ) Kt := by
  rw [k0_part1_eq_skeleton]; unfold k0_part1_skel
  simp only [Prog.lift, Prog.bind_op, Prog.bind_ret, Prog.pure_eq_ret]
  rw [wp_deviceId]
  iintro Hk
  rw [wp_ret]; imodintro
  have e : ∀ (a b d v v' : BitVec 32), v = v' → Kt ⟨c, a, b, d, v', 1#32⟩ = Kt ⟨c, a, b, d, v, 1#32⟩ := fun a b d v v' h => by rw [h]
  iapply (Entails.of_eq (e _ _ _ _ (w39 c) (by clear e; revert c; decide +kernel)))
  iapply Hk

theorem part2_run (v2 v19 v37 v39 c1 : BitVec 32) (Kt : (Σ' (v46 : BitVec 32) (v53 : BitVec 32), BitVec 32) → sProp 𝕄) :
    iprop(invs m K ∗ levAts L lv ∗ ow c (O₀ c) ∗ dutyTok ER (barCell (xp c)) 0 0 ∗ dutyTok ER (barCell (yp c)) 0 1 ∗ dutyTok ER (barCell (zp c)) 0 2
        ∗ reached ER (barCell (xp c)) 0 ∗ reached ER (barCell (yp c)) 0 ∗ reached ER (barCell (zp c)) 0
        ∗ anyAt rb0 c ∗ anyAt rb1 c ∗ anyAt rb2 c ∗ anyAt rb3 c ∗ anyAt rb4 c ∗ anyAt rb5 c
        ∗ reached ER (dCell rcS0 c) 0 ∗ reached ER (dCell rcS1 c) 0 ∗ reached ER (dCell rcS2 c) 0 ∗ reached ER (dCell rcS3 c) 0 ∗ reached ER (dCell rcS4 c) 0 ∗ reached ER (dCell rcS5 c) 0
        ∗ cred (tallyAt (barCell c) () 3) ∗ atPos ER (barCell c) 0 ∅ 0
        ∗ (∀ a b d, (ow c (Ow0 c) ∗ atPos ER (barCell c) (0 + 1) ∅ 0 ∗ barPay c 0 ∗ barPay c 1 ∗ barPay c 2) -∗ Kt ⟨a, b, d⟩))
      ⊢ wp frame (wpE (defs₀ (F := F)) 𝒱₀ c none) Set.univ (k0_part2 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v19 v37 v39 c1) Kt := by
  rw [k0_part2_eq_skeleton]; unfold k0_part2_skel
  simp only [semSignalWord, semWaitWord, Prog.lift, Prog.bind_op, Prog.bind_ret, Prog.pure_eq_ret]
  iintro ⟨#HI, #HL, HO, Htx, Hty, Htz, Hrx, Hry, Hrz, Hb0, Hb1, Hb2, Hb3, Hb4, Hb5, #HR0, #HR1, #HR2, #HR3, #HR4, #HR5, Hc, Hat, Hk⟩
  iapply (signal_step m c K (⟨k0_dev1 c, k0_dev1_lt c⟩ : Dev nD) (xp c) (dev1_eq c) 0 (OwY c) rfl (by decide)) $$ [HO Htx Hb0 Hb5 Hrx]
  · isplitr; · iexact HI
    isplitl [HO]; · iexact HO
    isplitl [Htx]; · iexact Htx
    isplitl [Hb0 Hb5]
    · iapply (Entails.of_eq (show iprop(anyAt rb0 (xp (xp c)) ∗ anyAt rb5 (xp (xp c)) ∗ reached ER (dCell rcS0 (xp (xp c))) 0 ∗ reached ER (dCell rcS5 (xp (xp c))) 0) = barPay (xp c) 0 from rfl))
      rw [xp_xp]
      isplitl [Hb0]; · iexact Hb0
      isplitl [Hb5]; · iexact Hb5
      isplitr; · iexact HR0
      iexact HR5
    iexact Hrx
  iintro HO
  iapply (signal_step m c K (⟨k0_dev2 c, k0_dev2_lt c⟩ : Dev nD) (yp c) (dev2_eq c) 1 (OwZ c) rfl (by decide)) $$ [HO Hty Hb1 Hb4 Hry]
  · isplitr; · iexact HI
    isplitl [HO]; · iexact HO
    isplitl [Hty]; · iexact Hty
    isplitl [Hb1 Hb4]
    · iapply (Entails.of_eq (show iprop(anyAt rb1 (yp (yp c)) ∗ anyAt rb4 (yp (yp c)) ∗ reached ER (dCell rcS1 (yp (yp c))) 0 ∗ reached ER (dCell rcS4 (yp (yp c))) 0) = barPay (yp c) 1 from rfl))
      rw [yp_yp]
      isplitl [Hb1]; · iexact Hb1
      isplitl [Hb4]; · iexact Hb4
      isplitr; · iexact HR1
      iexact HR4
    iexact Hry
  iintro HO
  iapply (signal_step m c K (⟨k0_dev3 c, k0_dev3_lt c⟩ : Dev nD) (zp c) (dev3_eq c) 2 (Ow0 c) rfl (by decide)) $$ [HO Htz Hb2 Hb3 Hrz]
  · isplitr; · iexact HI
    isplitl [HO]; · iexact HO
    isplitl [Htz]; · iexact Htz
    isplitl [Hb2 Hb3]
    · iapply (Entails.of_eq (show iprop(anyAt rb2 (zp (zp c)) ∗ anyAt rb3 (zp (zp c)) ∗ reached ER (dCell rcS2 (zp (zp c))) 0 ∗ reached ER (dCell rcS3 (zp (zp c))) 0) = barPay (zp c) 2 from rfl))
      rw [zp_zp]
      isplitl [Hb2]; · iexact Hb2
      isplitl [Hb3]; · iexact Hb3
      isplitr; · iexact HR2
      iexact HR3
    iexact Hrz
  iintro HO
  iapply (barrier_step m c K (by decide)) $$ [Hc HO Hat]
  · isplitr; · iexact HI
    isplitr; · iexact HL
    isplitl [Hc]; · iexact Hc
    isplitl [HO]; · iexact HO
    iexact Hat
  iintro H
  rw [wp_ret]; imodintro; iapply Hk
  iexact H

/-! ## The key/value scratch in its two halves -/

theorem kvD0_set : kvD0.view.set = (Rect.unit (s := S2x1024x8x128) ![0, 0, 0, 0] S1x1024x8x128.size inb_S2x1024x8x128_S1x1024x8x128_0_0_0_0).set :=
  (View.set_reshape _ _).trans (View.set_slice_whole _ _)
theorem kvD1_set : kvD1.view.set = (Rect.unit (s := S2x1024x8x128) ![1, 0, 0, 0] S1x1024x8x128.size inb_S2x1024x8x128_S1x1024x8x128_1_0_0_0).set :=
  (View.set_reshape _ _).trans (View.set_slice_whole _ _)
/-- The second half is what the first leaves. -/
theorem kvD1_rest : kvD1.view.set = Finset.univ \ kvD0.view.set := by
  rw [kvD0_set, kvD1_set]
  ext i
  rw [Finset.mem_sdiff]
  have h0 : (i 0).val < 2 := (i 0).isLt
  have h1 : (i 1).val < 1024 := (i 1).isLt
  have h2 : (i 2).val < 8 := (i 2).isLt
  have h3 : (i 3).val < 128 := (i 3).isLt
  simp only [Rect.mem_set_unit, Fin.forall_fin_succ, Finset.mem_univ, true_and]
  show ((1 ≤ (i 0).val ∧ (i 0).val < 1 + 1) ∧ (0 ≤ (i 1).val ∧ (i 1).val < 0 + 1024) ∧ (0 ≤ (i 2).val ∧ (i 2).val < 0 + 8) ∧ (0 ≤ (i 3).val ∧ (i 3).val < 0 + 128) ∧ _) ↔
    ¬ ((0 ≤ (i 0).val ∧ (i 0).val < 0 + 1) ∧ (0 ≤ (i 1).val ∧ (i 1).val < 0 + 1024) ∧ (0 ≤ (i 2).val ∧ (i 2).val < 0 + 8) ∧ (0 ≤ (i 3).val ∧ (i 3).val < 0 + 128) ∧ _)
  simp only [Fin.forall_fin_zero_pi, IsEmpty.forall_iff, and_true]
  omega

/-- What the first half of the scratch reads once the keys have landed: the device's own heads. -/
theorem kv_read0 : kvD0.view.read (Elt F) (kvF m c) = (kS c).view.read (Elt F) (V m c main_arg2) := by
  have ho : k0_off1 c 2 = 8 * c.val ∧ k0_off1 c 0 = 0 ∧ k0_off1 c 1 = 0 ∧ k0_off1 c 3 = 0 := by revert c; decide +kernel
  have e : ∀ y : S1x1024x8x128.Idx, kvF m c ((Rect.unit (s := S2x1024x8x128) ![0, 0, 0, 0] S1x1024x8x128.size inb_S2x1024x8x128_S1x1024x8x128_0_0_0_0).emb y)
      = (V m c main_arg2 : S1x1024x64x128.Idx → Elt F .f32) ((Rect.unit (s := S1x1024x64x128) (k0_off1 c) S1x1024x8x128.size (k0_off1_inb c)).emb y) := by
    intro y
    have y0 : (y 0).val < 1 := (y 0).isLt
    have hz : ((Rect.unit (s := S2x1024x8x128) ![0, 0, 0, 0] S1x1024x8x128.size inb_S2x1024x8x128_S1x1024x8x128_0_0_0_0).emb y 0).val = 0 := by
      show 0 + 1 * (y 0).val = 0; omega
    unfold kvF
    rw [if_pos hz]
    refine congrArg (V m c main_arg2 : S1x1024x64x128.Idx → Elt F .f32) (funext fun a => Fin.ext ?_)
    fin_cases a
    · show 0 = k0_off1 c 0 + 1 * (y 0).val; omega
    · show 0 + 1 * (y 1).val = k0_off1 c 1 + 1 * (y 1).val; omega
    · show 8 * c.val + (0 + 1 * (y 2).val) = k0_off1 c 2 + 1 * (y 2).val; omega
    · show 0 + 1 * (y 3).val = k0_off1 c 3 + 1 * (y 3).val; omega
  funext x
  exact e (Shape.reshapeEquiv _ x)

/-- What the second half of the scratch reads once the values have landed: the device's own heads. -/
theorem kv_read1 : kvD1.view.read (Elt F) (kvF m c) = (vS c).view.read (Elt F) (V m c main_arg3) := by
  have ho : k0_off1 c 2 = 8 * c.val ∧ k0_off1 c 0 = 0 ∧ k0_off1 c 1 = 0 ∧ k0_off1 c 3 = 0 := by revert c; decide +kernel
  have e : ∀ y : S1x1024x8x128.Idx, kvF m c ((Rect.unit (s := S2x1024x8x128) ![1, 0, 0, 0] S1x1024x8x128.size inb_S2x1024x8x128_S1x1024x8x128_1_0_0_0).emb y)
      = (V m c main_arg3 : S1x1024x64x128.Idx → Elt F .f32) ((Rect.unit (s := S1x1024x64x128) (k0_off1 c) S1x1024x8x128.size (k0_off1_inb c)).emb y) := by
    intro y
    have y0 : (y 0).val < 1 := (y 0).isLt
    have hz : ((Rect.unit (s := S2x1024x8x128) ![1, 0, 0, 0] S1x1024x8x128.size inb_S2x1024x8x128_S1x1024x8x128_1_0_0_0).emb y 0).val = 1 := by
      show 1 + 1 * (y 0).val = 1; omega
    unfold kvF
    rw [if_neg (by rw [hz]; exact Nat.one_ne_zero)]
    refine congrArg (V m c main_arg3 : S1x1024x64x128.Idx → Elt F .f32) (funext fun a => Fin.ext ?_)
    fin_cases a
    · show 0 = k0_off1 c 0 + 1 * (y 0).val; omega
    · show 0 + 1 * (y 1).val = k0_off1 c 1 + 1 * (y 1).val; omega
    · show 8 * c.val + (0 + 1 * (y 2).val) = k0_off1 c 2 + 1 * (y 2).val; omega
    · show 0 + 1 * (y 3).val = k0_off1 c 3 + 1 * (y 3).val; omega
  funext x
  exact e (Shape.reshapeEquiv _ x)

theorem part3_run (v19 v37 : BitVec 32) (wq : S1024x1024.Idx → Elt F .f32) (Kt : (Σ' (v77 : BitVec 32) (v78 : BitVec 32) (v80 : BitVec 32) (v83 : BitVec 32) (v85 : BitVec 32) (v88 : BitVec 32), FVec F S1024x1024 .bf16) → sProp 𝕄) :
    iprop(invs m K ∗ (∃ f : S2x1024x8x128.Idx → Elt F .f32, pt c cc0_scratch0 f) ∗ pt c main_arg2 (V m c main_arg2) ∗ pt c main_arg3 (V m c main_arg3)
        ∗ dutyTok ER (dCell kvS0 c) 0 0 ∗ reached ER (dCell kvS0 c) 0 ∗ dutyTok ER (dCell kvS1 c) 0 0 ∗ reached ER (dCell kvS1 c) 0 ∗ pt c cc0_stg1_0 wq
        ∗ (∀ a b d e, (cred (tallyAt (dCell kvS0 c) () (dmaAmt 4)) ∗ cred (tallyAt (dCell kvS1 c) () (dmaAmt 5)) ∗ restAt c (kS c) (V m c main_arg2) ∗ restAt c (vS c) (V m c main_arg3) ∗ pt c cc0_stg1_0 wq)
            -∗ Kt ⟨kxW c, sxW c, a, b, d, e, k0_pay1 (ldWq wq)⟩))
      ⊢ wp frame (wpE (defs₀ (F := F)) 𝒱₀ c none) Set.univ (k0_part3 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v19 v37 (w39 c)) Kt := by
  rw [k0_part3_eq_skeleton]; unfold k0_part3_skel
  simp only [Prog.lift, Prog.bind_op, Prog.bind_ret, Prog.pure_eq_ret]
  iintro ⟨#HI, ⟨%f, Hkv⟩, Hk, Hv, Ht0, Hr0, Ht1, Hr1, Hwq, Hc⟩
  ihave Hkv := (pointsTo_split_subset (Finset.subset_univ kvD0.view.set)).1 $$ Hkv
  icases Hkv with ⟨Hd0, Hd1⟩
  rw [← kvD1_rest]
  ihave Hk := (pointsTo_split_subset (Finset.subset_univ (kS c).view.set)).1 $$ Hk
  icases Hk with ⟨Hk, HkR⟩
  ihave Hv := (pointsTo_split_subset (Finset.subset_univ (vS c).view.set)).1 $$ Hv
  icases Hv with ⟨Hv, HvR⟩
  iapply (copy_step m c K kvS0 (by decide) (src := kS c) (dst := kvD0) (fs := V m c main_arg2) (fd := f) rfl
    (by rw [pv_write_eq kvD0 c f (kvF m c) _ (kv_read0 m c)]; exact Entails.of_eq rfl)) $$ [Hk Hd0 Ht0 Hr0]
  · isplitr; · iexact HI
    isplitl [Hk]; · iexact Hk
    isplitl [Hd0]; · iexact Hd0
    isplitl [Ht0]; · iexact Ht0
    iexact Hr0
  iintro Hc0
  iapply (copy_step m c K kvS1 (by decide) (src := vS c) (dst := kvD1) (fs := V m c main_arg3) (fd := f) rfl
    (by rw [pv_write_eq kvD1 c f (kvF m c) _ (kv_read1 m c)]; exact Entails.of_eq rfl)) $$ [Hv Hd1 Ht1 Hr1]
  · isplitr; · iexact HI
    isplitl [Hv]; · iexact Hv
    isplitl [Hd1]; · iexact Hd1
    isplitl [Ht1]; · iexact Ht1
    iexact Hr1
  iintro Hc1
  iapply (wp_load 𝒱₀ (c : Thread nD τ) none Set.univ (m := wqM) (Finset.subset_univ _)) $$ Hwq; iintro Hwq
  rw [wp_ret]; imodintro
  iapply Hc
  isplitl [Hc0]; · iexact Hc0
  isplitl [Hc1]; · iexact Hc1
  isplitl [HkR]; · iexact HkR
  isplitl [HvR]; · iexact HvR
  iexact Hwq

theorem part4_run (v78 : BitVec 32) (v93 : FVec F S1024x1024 .bf16) (x : S1024x1024.Idx → Elt F .f32) (Kt : (Σ' (v110 : FVec F S512x1024 .f32), IVec S512x1024 32) → sProp 𝕄) :
    iprop(invs m K ∗ levAts L lv ∗ ow c (Ow0 c) ∗ cred (tallyAt (dCell kvS0 c) () (dmaAmt 4)) ∗ cred (tallyAt (dCell kvS1 c) () (dmaAmt 5)) ∗ fresh c kvS0 ∗ fresh c kvS1
        ∗ restAt c (kS c) (V m c main_arg2) ∗ restAt c (vS c) (V m c main_arg3) ∗ pt c cc0_stg0_0 x
        ∗ ((ow c (Ow0 c) ∗ done c kvS0 ∗ done c kvS1 ∗ pt c cc0_scratch0 (kvF m c) ∗ pt c main_arg2 (V m c main_arg2) ∗ pt c main_arg3 (V m c main_arg3) ∗ pt c cc0_stg0_0 x)
            -∗ Kt ⟨k0_pay2 v93 (ldX2 c x), k0_pay3 v78⟩))
      ⊢ wp frame (wpE (defs₀ (F := F)) 𝒱₀ c none) Set.univ (k0_part4 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v78 v93) Kt := by
  rw [k0_part4_eq_skeleton]; unfold k0_part4_skel
  simp only [Prog.lift, Prog.bind_op, Prog.bind_ret, Prog.pure_eq_ret]
  iintro ⟨#HI, #HL, HO, Hc0, Hc1, Ha0, Ha1, HkR, HvR, Hx, Hc⟩
  iapply (wait_step m c K kvS0 (by decide) 0 rfl (above_mono (Nat.zero_le _) (above0 c)) (dst := kvD0) rfl) $$ [Hc0 HO Ha0]
  · isplitr; · iexact HI
    isplitr; · iexact HL
    isplitl [Hc0]; · iexact Hc0
    isplitl [HO]; · iexact HO
    iexact Ha0
  iintro ⟨HO, Ha0, Hp0⟩
  ihave Hp0 := (Entails.of_eq (show dmaPay m c 4 = iprop(pv kvD0 c (kvF m c) ∗ pv (kS c) c (V m c main_arg2)) from rfl)) $$ Hp0
  icases Hp0 with ⟨Hd0, Hk⟩
  iapply (wait_step m c K kvS1 (by decide) 0 rfl (above_mono (Nat.zero_le _) (above0 c)) (dst := kvD1) rfl) $$ [Hc1 HO Ha1]
  · isplitr; · iexact HI
    isplitr; · iexact HL
    isplitl [Hc1]; · iexact Hc1
    isplitl [HO]; · iexact HO
    iexact Ha1
  iintro ⟨HO, Ha1, Hp1⟩
  ihave Hp1 := (Entails.of_eq (show dmaPay m c 5 = iprop(pv kvD1 c (kvF m c) ∗ pv (vS c) c (V m c main_arg3)) from rfl)) $$ Hp1
  icases Hp1 with ⟨Hd1, Hv⟩
  iapply (wp_load 𝒱₀ (c : Thread nD τ) none Set.univ (m := xM) (Finset.subset_univ _)) $$ Hx; iintro Hx
  rw [wp_ret]; imodintro
  iapply Hc
  isplitl [HO]; · iexact HO
  isplitl [Ha0]; · iexact Ha0
  isplitl [Ha1]; · iexact Ha1
  isplitl [Hd0 Hd1]
  · iapply (pointsTo_split_subset (Finset.subset_univ kvD0.view.set)).2
    rw [← kvD1_rest]
    isplitl [Hd0]; · iexact Hd0
    iexact Hd1
  isplitl [Hk HkR]
  · iapply (pointsTo_split_subset (Finset.subset_univ (kS c).view.set)).2
    isplitl [Hk]; · iexact Hk
    iexact HkR
  isplitl [Hv HvR]
  · iapply (pointsTo_split_subset (Finset.subset_univ (vS c).view.set)).2
    isplitl [Hv]; · iexact Hv
    iexact HvR
  iexact Hx

theorem part11_run (v46 v77 v78 : BitVec 32) (v93 : FVec F S1024x1024 .bf16) (v172 : IVec S512x1024 1) (v355 : FVec F S512x1024 .f32) (v363 : FVec F S1024x128 .bf16) (v364 : FVec F S512x1024 .f32) (cst_199 : F .f32)
    (x wo : S1024x1024.Idx → Elt F .f32) (f : OutT F) (hmsg : k0_pay24 v172 v355 v363 v364 cst_199 (ldO7 wo) = msg0 m c) (Kt : (Σ' (v400 : FVec F S512x1024 .f32) (v401 : IVec S512x1024 32), IVec S512x1024 32) → sProp 𝕄) :
    iprop(invs m K ∗ pt c cc0_stg2_0 wo ∗ pt c cc0_stg3_0 f ∗ anySb c ∗ pt c cc0_stg0_0 x ∗ anyAt rb0 (xp c) ∗ ow c (Ow0 c) ∗ dutyTok ER (dCell snS0 c) 0 0 ∗ reached ER (dCell snS0 c) 0 ∗ dutyTok ER (dCell rcS0 (xp c)) 0 0 ∗ reached ER (dCell rcS0 (xp c)) 0
        ∗ ((pt c cc0_stg2_0 wo ∗ pt c cc0_stg3_0 (stOut (r2 c) f (k0_pay23 v172 v355 v363 v364 cst_199 (ldO7 wo))) ∗ pt c cc0_stg0_0 x ∗ restOf c sb512 ∗ cred (tallyAt (dCell snS0 c) () (dmaAmt 6)) ∗ ow c (Ow1 c))
            -∗ Kt ⟨k0_pay25 v93 (ldX3 c x), iota .tc S512x1024 32 [0] iota_S512x1024_d0_w32, k0_pay26 v77⟩))
      ⊢ wp frame (wpE (defs₀ (F := F)) 𝒱₀ c none) Set.univ (k0_part11 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v46 v77 v78 v93 v172 v355 v363 v364 cst_199) Kt := by
  rw [k0_part11_eq_skeleton]; unfold k0_part11_skel
  simp only [Prog.lift, Prog.bind_op, Prog.bind_ret, Prog.pure_eq_ret]
  iintro ⟨#HI, Hwo, Hout, Hsb, Hx, Hrb, HO, HtS, HrS, HtR, HrR, Hk⟩
  iapply (wp_load 𝒱₀ (c : Thread nD τ) none Set.univ (m := woM) (Finset.subset_univ _)) $$ Hwo; iintro Hwo
  iapply (wp_load 𝒱₀ (c : Thread nD τ) none Set.univ (m := outM) (Finset.subset_univ _)) $$ Hout; iintro Hout
  iapply (store_out c) $$ Hout; iintro Hout
  icases Hsb with ⟨%g, Hsb⟩
  iapply (wp_load 𝒱₀ (c : Thread nD τ) none Set.univ (m := sbM) (Finset.subset_univ _)) $$ Hsb; iintro Hsb
  iapply (store_send c (fun _ => rfl)) $$ Hsb; iintro ⟨Hsb, Hrest⟩
  rw [show k0_pay24 v172 v355 v363 v364 cst_199 _ = msg0 m c from hmsg]
  iapply (send_step m c K (⟨k0_dev4 c, k0_dev4_lt c⟩ : Dev nD) (xp c) (dev4_eq c) snS0 rcS0 (by decide) (by decide) (src := sb512) (dst := rb0) (w := msg0 m c)
    (Ow1 c) rfl rfl rfl rfl (show got rb0 (xp c) (msg0 m (xp (xp c))) = got rb0 (xp c) (msg0 m c) by rw [xp_xp])) $$ [Hsb Hrb HO HtS HrS HtR HrR]
  · isplitr; · iexact HI
    isplitl [Hsb]; · iexact Hsb
    isplitl [Hrb]; · iexact Hrb
    isplitl [HO]; · iexact HO
    isplitl [HtS]; · iexact HtS
    isplitl [HrS]; · iexact HrS
    isplitl [HtR]; · iexact HtR
    iexact HrR
  iintro ⟨HcS, HO⟩
  iapply (wp_load 𝒱₀ (c : Thread nD τ) none Set.univ (m := xM) (Finset.subset_univ _)) $$ Hx; iintro Hx
  rw [wp_ret]; imodintro
  iapply Hk
  isplitl [Hwo]; · iexact Hwo
  isplitl [Hout]; · iexact Hout
  isplitl [Hx]; · iexact Hx
  isplitl [Hrest]; · iexact Hrest
  isplitl [HcS]; · iexact HcS
  iexact HO

theorem part18_run (v77 : BitVec 32) (v400 : FVec F S512x1024 .f32) (v462 : IVec S512x1024 1) (v619 : FVec F S512x1024 .f32) (v627 : FVec F S1024x128 .bf16) (v635 : FVec F S512x1 .f32) (v636 : FVec F S512x1024 .bf16)
    (kv : S2x1024x8x128.Idx → Elt F .f32) (wo : S1024x1024.Idx → Elt F .f32) (f : OutT F) (Kt : PUnit → sProp 𝕄) :
    iprop(pt c cc0_scratch0 kv ∗ pt c cc0_stg2_0 wo ∗ pt c cc0_stg3_0 f
        ∗ ((pt c cc0_scratch0 kv ∗ pt c cc0_stg2_0 wo ∗ pt c cc0_stg3_0 (stOut (r3 c) f (k0_pay47 v400 v462 v619 v627 v635 v636 (ldO6 wo) (ldK7 kv) (ldV7 kv) (ldO7 wo)))) -∗ Kt ⟨⟩))
      ⊢ wp frame (wpE (defs₀ (F := F)) 𝒱₀ c none) Set.univ (k0_part18 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v77 v400 v462 v619 v627 v635 v636) Kt := by
  rw [k0_part18_eq_skeleton]; unfold k0_part18_skel
  simp only [Prog.lift, Prog.bind_op, Prog.bind_ret, Prog.pure_eq_ret]
  iintro ⟨Hkv, Hwo, Hout, Hk⟩
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := outM) (Finset.subset_univ _)) $$ Hout; iintro Hout
  iapply (store_out c) $$ Hout; iintro Hout
  rw [wp_ret]; imodintro
  iapply Hk
  isplitl [Hkv]; · iexact Hkv
  isplitl [Hwo]; · iexact Hwo
  iexact Hout

theorem part19_run (v46 v53 v77 v83 : BitVec 32) (Kt : PUnit → sProp 𝕄) :
    iprop(invs m K ∗ levAts L lv ∗ ow c (Ow1 c) ∗ cred (tallyAt (dCell rcS0 c) () (dmaAmt 12)) ∗ fresh c rcS0 ∗ cred (tallyAt (dCell snS0 c) () (dmaAmt 6)) ∗ fresh c snS0
        ∗ restOf c sb512 ∗ pt c cc0_stg3_0 (out0 m c)
        ∗ ((ow c (Ow1 c) ∗ done c rcS0 ∗ done c snS0 ∗ got rb0 c (msg0 m (xp c)) ∗ pt c cc0_stg3_0 (out1 m c) ∗ got sb256 c (msg1 m c) ∗ restOf c sb256) -∗ Kt ⟨⟩))
      ⊢ wp frame (wpE (defs₀ (F := F)) 𝒱₀ c none) Set.univ (k0_part19 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v46 v53 v77 v83) Kt := by
  rw [k0_part19_eq_skeleton]; unfold k0_part19_skel
  simp only [Prog.lift, Prog.bind_op, Prog.bind_ret, Prog.pure_eq_ret]
  iintro ⟨#HI, #HL, HO, HcR, HaR, HcS, HaS, Hrest, Hout, Hk⟩
  iapply (wait_step m c K rcS0 (by decide) 2 rfl (above1 c) (dst := rb0) rfl) $$ [HcR HO HaR]
  · isplitr; · iexact HI
    isplitr; · iexact HL
    isplitl [HcR]; · iexact HcR
    isplitl [HO]; · iexact HO
    iexact HaR
  iintro ⟨HO, HaR, Hrb⟩
  ihave Hrb := (Entails.of_eq (show dmaPay m c 12 = got rb0 c (msg0 m (xp c)) from rfl)) $$ Hrb
  iapply (wp_load 𝒱₀ (c : Thread nD τ) none Set.univ (m := outM) (Finset.subset_univ _)) $$ Hout; iintro Hout
  iapply (load_got c (M := rbM) (fun _ => rfl)) $$ Hrb; iintro Hrb
  iapply (wp_load 𝒱₀ (c : Thread nD τ) none Set.univ (m := outM) (Finset.subset_univ _)) $$ Hout; iintro Hout
  iapply (store_out c) $$ Hout; iintro Hout
  iapply (wait_step m c K snS0 (by decide) 0 rfl (above_mono (Nat.zero_le _) (above1 c)) (dst := sb512) rfl) $$ [HcS HO HaS]
  · isplitr; · iexact HI
    isplitr; · iexact HL
    isplitl [HcS]; · iexact HcS
    isplitl [HO]; · iexact HO
    iexact HaS
  iintro ⟨HO, HaS, Hsb⟩
  ihave Hsb := (Entails.of_eq (show dmaPay m c 6 = anyAt sb512 c from rfl)) $$ Hsb
  ihave Hsb := (back_region c sb512) $$ [Hsb Hrest]
  · isplitl [Hsb]; · iexact Hsb
    iexact Hrest
  iapply (wp_load 𝒱₀ (c : Thread nD τ) none Set.univ (m := outM) (Finset.subset_univ _)) $$ Hout; iintro Hout
  icases Hsb with ⟨%g, Hsb⟩
  iapply (wp_load 𝒱₀ (c : Thread nD τ) none Set.univ (m := sbM) (Finset.subset_univ _)) $$ Hsb; iintro Hsb
  iapply (store_send c (fun _ => rfl)) $$ Hsb; iintro ⟨Hsb, Hrest⟩
  rw [wp_ret]; imodintro
  iapply Hk
  isplitl [HO]; · iexact HO
  isplitl [HaR]; · iexact HaR
  isplitl [HaS]; · iexact HaS
  isplitl [Hrb]; · iexact Hrb
  isplitl [Hout]; · iexact Hout
  isplitl [Hsb]; · iexact Hsb
  iexact Hrest

theorem part20_run (v53 v80 v88 : BitVec 32) (Kt : PUnit → sProp 𝕄) :
    iprop(invs m K ∗ levAts L lv ∗ anyAt rb1 (yp c) ∗ ow c (Ow1 c) ∗ dutyTok ER (dCell snS1 c) 0 0 ∗ reached ER (dCell snS1 c) 0 ∗ dutyTok ER (dCell rcS1 (yp c)) 0 0 ∗ reached ER (dCell rcS1 (yp c)) 0 ∗ cred (tallyAt (dCell rcS1 c) () (dmaAmt 13)) ∗ fresh c snS1 ∗ fresh c rcS1
        ∗ got sb256 c (msg1 m c) ∗ restOf c sb256 ∗ pt c cc0_stg3_0 (out1 m c)
        ∗ ((ow c (Ow2 c) ∗ done c snS1 ∗ done c rcS1 ∗ got rb1 c (msg1 m (yp c)) ∗ pt c cc0_stg3_0 (out2 m c) ∗ got sb128 c (msg2 m c) ∗ restOf c sb128) -∗ Kt ⟨⟩))
      ⊢ wp frame (wpE (defs₀ (F := F)) 𝒱₀ c none) Set.univ (k0_part20 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v53 v80 v88) Kt := by
  rw [k0_part20_eq_skeleton]; unfold k0_part20_skel
  simp only [Prog.lift, Prog.bind_op, Prog.bind_ret, Prog.pure_eq_ret]
  iintro ⟨#HI, #HL, Hrb, HO, HtS, HrS, HtR, HrR, HcR, HaS, HaR, Hsb, Hrest, Hout, Hk⟩
  iapply (send_step m c K (⟨k0_dev5 c, k0_dev5_lt c⟩ : Dev nD) (yp c) (dev5_eq c) snS1 rcS1 (by decide) (by decide) (src := sb256) (dst := rb1) (w := msg1 m c)
    (Ow2 c) rfl rfl rfl rfl (show got rb1 (yp c) (msg1 m (yp (yp c))) = got rb1 (yp c) (msg1 m c) by rw [yp_yp])) $$ [Hsb Hrb HO HtS HrS HtR HrR]
  · isplitr; · iexact HI
    isplitl [Hsb]; · iexact Hsb
    isplitl [Hrb]; · iexact Hrb
    isplitl [HO]; · iexact HO
    isplitl [HtS]; · iexact HtS
    isplitl [HrS]; · iexact HrS
    isplitl [HtR]; · iexact HtR
    iexact HrR
  iintro ⟨HcS, HO⟩
  iapply (wait_step m c K snS1 (by decide) 0 rfl (above_mono (Nat.zero_le _) (above2 c)) (dst := sb256) rfl) $$ [HcS HO HaS]
  · isplitr; · iexact HI
    isplitr; · iexact HL
    isplitl [HcS]; · iexact HcS
    isplitl [HO]; · iexact HO
    iexact HaS
  iintro ⟨HO, HaS, Hsb⟩
  ihave Hsb := (Entails.of_eq (show dmaPay m c 7 = anyAt sb256 c from rfl)) $$ Hsb
  ihave Hsb := (back_region c sb256) $$ [Hsb Hrest]
  · isplitl [Hsb]; · iexact Hsb
    iexact Hrest
  iapply (wait_step m c K rcS1 (by decide) 3 rfl (above2 c) (dst := rb1) rfl) $$ [HcR HO HaR]
  · isplitr; · iexact HI
    isplitr; · iexact HL
    isplitl [HcR]; · iexact HcR
    isplitl [HO]; · iexact HO
    iexact HaR
  iintro ⟨HO, HaR, Hrb⟩
  ihave Hrb := (Entails.of_eq (show dmaPay m c 13 = got rb1 c (msg1 m (yp c)) from rfl)) $$ Hrb
  iapply (wp_load 𝒱₀ (c : Thread nD τ) none Set.univ (m := outM) (Finset.subset_univ _)) $$ Hout; iintro Hout
  iapply (load_got c (M := rbM) (fun _ => rfl)) $$ Hrb; iintro Hrb
  iapply (wp_load 𝒱₀ (c : Thread nD τ) none Set.univ (m := outM) (Finset.subset_univ _)) $$ Hout; iintro Hout
  iapply (store_out c) $$ Hout; iintro Hout
  iapply (wp_load 𝒱₀ (c : Thread nD τ) none Set.univ (m := outM) (Finset.subset_univ _)) $$ Hout; iintro Hout
  icases Hsb with ⟨%g, Hsb⟩
  iapply (wp_load 𝒱₀ (c : Thread nD τ) none Set.univ (m := sbM) (Finset.subset_univ _)) $$ Hsb; iintro Hsb
  iapply (store_send c (fun _ => rfl)) $$ Hsb; iintro ⟨Hsb, Hrest⟩
  rw [wp_ret]; imodintro
  iapply Hk
  isplitl [HO]; · iexact HO
  isplitl [HaS]; · iexact HaS
  isplitl [HaR]; · iexact HaR
  isplitl [Hrb]; · iexact Hrb
  isplitl [Hout]; · iexact Hout
  isplitl [Hsb]; · iexact Hsb
  iexact Hrest

theorem part21_run (v55 v85 : BitVec 32) (Kt : FVec F S128x1024 .bf16 → sProp 𝕄) :
    iprop(invs m K ∗ levAts L lv ∗ anyAt rb2 (zp c) ∗ ow c (Ow2 c) ∗ dutyTok ER (dCell snS2 c) 0 0 ∗ reached ER (dCell snS2 c) 0 ∗ dutyTok ER (dCell rcS2 (zp c)) 0 0 ∗ reached ER (dCell rcS2 (zp c)) 0 ∗ cred (tallyAt (dCell rcS2 c) () (dmaAmt 14)) ∗ fresh c snS2 ∗ fresh c rcS2
        ∗ got sb128 c (msg2 m c) ∗ restOf c sb128 ∗ pt c cc0_stg3_0 (out2 m c)
        ∗ ((ow c (Ow3 c) ∗ done c snS2 ∗ done c rcS2 ∗ got rb2 c (msg2 m (zp c)) ∗ pt c cc0_stg3_0 (out3 m c) ∗ anySb c) -∗ Kt (k0_pay53 (outM.view.readAt (Elt F) (r7 c).toLoadRect (out3 m c)))))
      ⊢ wp frame (wpE (defs₀ (F := F)) 𝒱₀ c none) Set.univ (k0_part21 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v55 v85) Kt := by
  rw [k0_part21_eq_skeleton]; unfold k0_part21_skel
  simp only [Prog.lift, Prog.bind_op, Prog.bind_ret, Prog.pure_eq_ret]
  iintro ⟨#HI, #HL, Hrb, HO, HtS, HrS, HtR, HrR, HcR, HaS, HaR, Hsb, Hrest, Hout, Hk⟩
  iapply (send_step m c K (⟨k0_dev6 c, k0_dev6_lt c⟩ : Dev nD) (zp c) (dev6_eq c) snS2 rcS2 (by decide) (by decide) (src := sb128) (dst := rb2) (w := msg2 m c)
    (Ow3 c) rfl rfl rfl rfl (show got rb2 (zp c) (msg2 m (zp (zp c))) = got rb2 (zp c) (msg2 m c) by rw [zp_zp])) $$ [Hsb Hrb HO HtS HrS HtR HrR]
  · isplitr; · iexact HI
    isplitl [Hsb]; · iexact Hsb
    isplitl [Hrb]; · iexact Hrb
    isplitl [HO]; · iexact HO
    isplitl [HtS]; · iexact HtS
    isplitl [HrS]; · iexact HrS
    isplitl [HtR]; · iexact HtR
    iexact HrR
  iintro ⟨HcS, HO⟩
  iapply (wait_step m c K snS2 (by decide) 0 rfl (above_mono (Nat.zero_le _) (above3 c)) (dst := sb128) rfl) $$ [HcS HO HaS]
  · isplitr; · iexact HI
    isplitr; · iexact HL
    isplitl [HcS]; · iexact HcS
    isplitl [HO]; · iexact HO
    iexact HaS
  iintro ⟨HO, HaS, Hsb⟩
  ihave Hsb := (Entails.of_eq (show dmaPay m c 8 = anyAt sb128 c from rfl)) $$ Hsb
  ihave Hsb := (back_region c sb128) $$ [Hsb Hrest]
  · isplitl [Hsb]; · iexact Hsb
    iexact Hrest
  iapply (wait_step m c K rcS2 (by decide) 4 rfl (above3 c) (dst := rb2) rfl) $$ [HcR HO HaR]
  · isplitr; · iexact HI
    isplitr; · iexact HL
    isplitl [HcR]; · iexact HcR
    isplitl [HO]; · iexact HO
    iexact HaR
  iintro ⟨HO, HaR, Hrb⟩
  ihave Hrb := (Entails.of_eq (show dmaPay m c 14 = got rb2 c (msg2 m (zp c)) from rfl)) $$ Hrb
  iapply (wp_load 𝒱₀ (c : Thread nD τ) none Set.univ (m := outM) (Finset.subset_univ _)) $$ Hout; iintro Hout
  iapply (load_got c (M := rbM) (fun _ => rfl)) $$ Hrb; iintro Hrb
  iapply (wp_load 𝒱₀ (c : Thread nD τ) none Set.univ (m := outM) (Finset.subset_univ _)) $$ Hout; iintro Hout
  iapply (store_out c) $$ Hout; iintro Hout
  ihave Hout := (show (pt c cc0_stg3_0 (stOut (r7 c) (out2 m c) (k0_pay52 (outM.view.readAt (Elt F) (r7 c).toLoadRect (out2 m c)) (msg2 m (zp c)))) : sProp 𝕄) ⊢ pt c cc0_stg3_0 (out3 m c) from Entails.of_eq rfl) $$ Hout
  iapply (wp_load 𝒱₀ (c : Thread nD τ) none Set.univ (m := outM) (Finset.subset_univ _)) $$ Hout; iintro Hout
  rw [wp_ret]; imodintro
  iapply Hk
  isplitl [HO]; · iexact HO
  isplitl [HaS]; · iexact HaS
  isplitl [HaR]; · iexact HaR
  isplitl [Hrb]; · iexact Hrb
  isplitl [Hout]; · iexact Hout
  iexact Hsb

theorem part22_run (v55 v80 v88 : BitVec 32) (Kt : PUnit → sProp 𝕄) :
    iprop(invs m K ∗ levAts L lv ∗ anyAt rb3 (zp c) ∗ ow c (Ow3 c) ∗ dutyTok ER (dCell snS3 c) 0 0 ∗ reached ER (dCell snS3 c) 0 ∗ dutyTok ER (dCell rcS3 (zp c)) 0 0 ∗ reached ER (dCell rcS3 (zp c)) 0 ∗ cred (tallyAt (dCell rcS3 c) () (dmaAmt 15)) ∗ fresh c snS3 ∗ fresh c rcS3
        ∗ anySb c ∗ pt c cc0_stg3_0 (out3 m c)
        ∗ ((ow c (Ow4 c) ∗ done c snS3 ∗ done c rcS3 ∗ got rb3 c (msg3 m (zp c)) ∗ pt c cc0_stg3_0 (out4 m c) ∗ anySb c) -∗ Kt ⟨⟩))
      ⊢ wp frame (wpE (defs₀ (F := F)) 𝒱₀ c none) Set.univ (k0_part22 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v55 v80 v88 (k0_pay53 (outM.view.readAt (Elt F) (r7 c).toLoadRect (out3 m c)))) Kt := by
  rw [k0_part22_eq_skeleton]; unfold k0_part22_skel
  simp only [Prog.lift, Prog.bind_op, Prog.bind_ret, Prog.pure_eq_ret]
  iintro ⟨#HI, #HL, Hrb, HO, HtS, HrS, HtR, HrR, HcR, HaS, HaR, Hsb, Hout, Hk⟩
  icases Hsb with ⟨%g, Hsb⟩
  iapply (wp_load 𝒱₀ (c : Thread nD τ) none Set.univ (m := sbM) (Finset.subset_univ _)) $$ Hsb; iintro Hsb
  iapply (store_send c (fun _ => rfl)) $$ Hsb; iintro ⟨Hsb, Hrest⟩
  iapply (send_step m c K (⟨k0_dev7 c, k0_dev7_lt c⟩ : Dev nD) (zp c) (dev7_eq c) snS3 rcS3 (by decide) (by decide) (src := sb128) (dst := rb3) (w := msg3 m c)
    (Ow4 c) rfl rfl rfl rfl (show got rb3 (zp c) (msg3 m (zp (zp c))) = got rb3 (zp c) (msg3 m c) by rw [zp_zp])) $$ [Hsb Hrb HO HtS HrS HtR HrR]
  · isplitr; · iexact HI
    isplitl [Hsb]; · iexact Hsb
    isplitl [Hrb]; · iexact Hrb
    isplitl [HO]; · iexact HO
    isplitl [HtS]; · iexact HtS
    isplitl [HrS]; · iexact HrS
    isplitl [HtR]; · iexact HtR
    iexact HrR
  iintro ⟨HcS, HO⟩
  iapply (wait_step m c K snS3 (by decide) 0 rfl (above_mono (Nat.zero_le _) (above4 c)) (dst := sb128) rfl) $$ [HcS HO HaS]
  · isplitr; · iexact HI
    isplitr; · iexact HL
    isplitl [HcS]; · iexact HcS
    isplitl [HO]; · iexact HO
    iexact HaS
  iintro ⟨HO, HaS, Hsb⟩
  ihave Hsb := (Entails.of_eq (show dmaPay m c 9 = anyAt sb128 c from rfl)) $$ Hsb
  ihave Hsb := (back_region c sb128) $$ [Hsb Hrest]
  · isplitl [Hsb]; · iexact Hsb
    iexact Hrest
  iapply (wait_step m c K rcS3 (by decide) 5 rfl (above4 c) (dst := rb3) rfl) $$ [HcR HO HaR]
  · isplitr; · iexact HI
    isplitr; · iexact HL
    isplitl [HcR]; · iexact HcR
    isplitl [HO]; · iexact HO
    iexact HaR
  iintro ⟨HO, HaR, Hrb⟩
  ihave Hrb := (Entails.of_eq (show dmaPay m c 15 = got rb3 c (msg3 m (zp c)) from rfl)) $$ Hrb
  iapply (load_got c (M := rbM) (fun _ => rfl)) $$ Hrb; iintro Hrb
  iapply (wp_load 𝒱₀ (c : Thread nD τ) none Set.univ (m := outM) (Finset.subset_univ _)) $$ Hout; iintro Hout
  iapply (store_out c) $$ Hout; iintro Hout
  rw [wp_ret]; imodintro
  iapply Hk
  isplitl [HO]; · iexact HO
  isplitl [HaS]; · iexact HaS
  isplitl [HaR]; · iexact HaR
  isplitl [Hrb]; · iexact Hrb
  isplitl [Hout]; · iexact Hout
  iexact Hsb

theorem part23_run (v53 v83 : BitVec 32) (Kt : FVec F S256x1024 .f32 → sProp 𝕄) :
    iprop(invs m K ∗ levAts L lv ∗ anyAt rb4 (yp c) ∗ ow c (Ow4 c) ∗ dutyTok ER (dCell snS4 c) 0 0 ∗ reached ER (dCell snS4 c) 0 ∗ dutyTok ER (dCell rcS4 (yp c)) 0 0 ∗ reached ER (dCell rcS4 (yp c)) 0 ∗ cred (tallyAt (dCell rcS4 c) () (dmaAmt 16)) ∗ fresh c snS4 ∗ fresh c rcS4
        ∗ anySb c ∗ pt c cc0_stg3_0 (out4 m c)
        ∗ ((ow c (Ow5 c) ∗ done c snS4 ∗ done c rcS4 ∗ got rb4 c (msg4 m (yp c)) ∗ pt c cc0_stg3_0 (out4 m c) ∗ anySb c) -∗ Kt (k0_pay57 (msg4 m (yp c)))))
      ⊢ wp frame (wpE (defs₀ (F := F)) 𝒱₀ c none) Set.univ (k0_part23 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v53 v83) Kt := by
  rw [k0_part23_eq_skeleton]; unfold k0_part23_skel
  simp only [Prog.lift, Prog.bind_op, Prog.bind_ret, Prog.pure_eq_ret]
  iintro ⟨#HI, #HL, Hrb, HO, HtS, HrS, HtR, HrR, HcR, HaS, HaR, Hsb, Hout, Hk⟩
  iapply (wp_load 𝒱₀ (c : Thread nD τ) none Set.univ (m := outM) (Finset.subset_univ _)) $$ Hout; iintro Hout
  icases Hsb with ⟨%g, Hsb⟩
  iapply (wp_load 𝒱₀ (c : Thread nD τ) none Set.univ (m := sbM) (Finset.subset_univ _)) $$ Hsb; iintro Hsb
  iapply (store_send c (fun _ => rfl)) $$ Hsb; iintro ⟨Hsb, Hrest⟩
  iapply (send_step m c K (⟨k0_dev8 c, k0_dev8_lt c⟩ : Dev nD) (yp c) (dev8_eq c) snS4 rcS4 (by decide) (by decide) (src := sb256) (dst := rb4) (w := msg4 m c)
    (Ow5 c) rfl rfl rfl rfl (show got rb4 (yp c) (msg4 m (yp (yp c))) = got rb4 (yp c) (msg4 m c) by rw [yp_yp])) $$ [Hsb Hrb HO HtS HrS HtR HrR]
  · isplitr; · iexact HI
    isplitl [Hsb]; · iexact Hsb
    isplitl [Hrb]; · iexact Hrb
    isplitl [HO]; · iexact HO
    isplitl [HtS]; · iexact HtS
    isplitl [HrS]; · iexact HrS
    isplitl [HtR]; · iexact HtR
    iexact HrR
  iintro ⟨HcS, HO⟩
  iapply (wait_step m c K snS4 (by decide) 0 rfl (above_mono (Nat.zero_le _) (above5 c)) (dst := sb256) rfl) $$ [HcS HO HaS]
  · isplitr; · iexact HI
    isplitr; · iexact HL
    isplitl [HcS]; · iexact HcS
    isplitl [HO]; · iexact HO
    iexact HaS
  iintro ⟨HO, HaS, Hsb⟩
  ihave Hsb := (Entails.of_eq (show dmaPay m c 10 = anyAt sb256 c from rfl)) $$ Hsb
  ihave Hsb := (back_region c sb256) $$ [Hsb Hrest]
  · isplitl [Hsb]; · iexact Hsb
    iexact Hrest
  iapply (wait_step m c K rcS4 (by decide) 6 rfl (above5 c) (dst := rb4) rfl) $$ [HcR HO HaR]
  · isplitr; · iexact HI
    isplitr; · iexact HL
    isplitl [HcR]; · iexact HcR
    isplitl [HO]; · iexact HO
    iexact HaR
  iintro ⟨HO, HaR, Hrb⟩
  ihave Hrb := (Entails.of_eq (show dmaPay m c 16 = got rb4 c (msg4 m (yp c)) from rfl)) $$ Hrb
  iapply (load_got c (M := rbM) (fun _ => rfl)) $$ Hrb; iintro Hrb
  iapply (wp_load 𝒱₀ (c : Thread nD τ) none Set.univ (m := outM) (Finset.subset_univ _)) $$ Hout; iintro Hout
  rw [wp_ret]; imodintro
  iapply Hk
  isplitl [HO]; · iexact HO
  isplitl [HaS]; · iexact HaS
  isplitl [HaR]; · iexact HaR
  isplitl [Hrb]; · iexact Hrb
  isplitl [Hout]; · iexact Hout
  iexact Hsb

theorem part24_run (v46 v77 : BitVec 32) (Kt : FVec F S512x1024 .f32 → sProp 𝕄) :
    iprop(invs m K ∗ levAts L lv ∗ anyAt rb5 (xp c) ∗ ow c (Ow5 c) ∗ dutyTok ER (dCell snS5 c) 0 0 ∗ reached ER (dCell snS5 c) 0 ∗ dutyTok ER (dCell rcS5 (xp c)) 0 0 ∗ reached ER (dCell rcS5 (xp c)) 0 ∗ cred (tallyAt (dCell rcS5 c) () (dmaAmt 17)) ∗ fresh c snS5 ∗ fresh c rcS5
        ∗ anySb c ∗ pt c cc0_stg3_0 (out4 m c)
        ∗ ((ow c (Ow6 c) ∗ done c snS5 ∗ done c rcS5 ∗ got rb5 c (msg5 m (xp c)) ∗ pt c cc0_stg3_0 (out5 m c) ∗ anySb c) -∗ Kt (k0_pay59 (msg5 m (xp c)))))
      ⊢ wp frame (wpE (defs₀ (F := F)) 𝒱₀ c none) Set.univ (k0_part24 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v46 v77 (k0_pay57 (msg4 m (yp c)))) Kt := by
  rw [k0_part24_eq_skeleton]; unfold k0_part24_skel
  simp only [Prog.lift, Prog.bind_op, Prog.bind_ret, Prog.pure_eq_ret]
  iintro ⟨#HI, #HL, Hrb, HO, HtS, HrS, HtR, HrR, HcR, HaS, HaR, Hsb, Hout, Hk⟩
  iapply (store_out c) $$ Hout; iintro Hout
  iapply (wp_load 𝒱₀ (c : Thread nD τ) none Set.univ (m := outM) (Finset.subset_univ _)) $$ Hout; iintro Hout
  icases Hsb with ⟨%g, Hsb⟩
  iapply (wp_load 𝒱₀ (c : Thread nD τ) none Set.univ (m := sbM) (Finset.subset_univ _)) $$ Hsb; iintro Hsb
  iapply (store_send c (fun _ => rfl)) $$ Hsb; iintro ⟨Hsb, Hrest⟩
  iapply (send_step m c K (⟨k0_dev9 c, k0_dev9_lt c⟩ : Dev nD) (xp c) (dev9_eq c) snS5 rcS5 (by decide) (by decide) (src := sb512) (dst := rb5) (w := msg5 m c)
    (Ow6 c) rfl rfl rfl rfl (show got rb5 (xp c) (msg5 m (xp (xp c))) = got rb5 (xp c) (msg5 m c) by rw [xp_xp])) $$ [Hsb Hrb HO HtS HrS HtR HrR]
  · isplitr; · iexact HI
    isplitl [Hsb]; · iexact Hsb
    isplitl [Hrb]; · iexact Hrb
    isplitl [HO]; · iexact HO
    isplitl [HtS]; · iexact HtS
    isplitl [HrS]; · iexact HrS
    isplitl [HtR]; · iexact HtR
    iexact HrR
  iintro ⟨HcS, HO⟩
  iapply (wait_step m c K snS5 (by decide) 0 rfl (above_mono (Nat.zero_le _) (above6 c 0)) (dst := sb512) rfl) $$ [HcS HO HaS]
  · isplitr; · iexact HI
    isplitr; · iexact HL
    isplitl [HcS]; · iexact HcS
    isplitl [HO]; · iexact HO
    iexact HaS
  iintro ⟨HO, HaS, Hsb⟩
  ihave Hsb := (Entails.of_eq (show dmaPay m c 11 = anyAt sb512 c from rfl)) $$ Hsb
  ihave Hsb := (back_region c sb512) $$ [Hsb Hrest]
  · isplitl [Hsb]; · iexact Hsb
    iexact Hrest
  iapply (wait_step m c K rcS5 (by decide) 7 rfl (above6 c 7) (dst := rb5) rfl) $$ [HcR HO HaR]
  · isplitr; · iexact HI
    isplitr; · iexact HL
    isplitl [HcR]; · iexact HcR
    isplitl [HO]; · iexact HO
    iexact HaR
  iintro ⟨HO, HaR, Hrb⟩
  ihave Hrb := (Entails.of_eq (show dmaPay m c 17 = got rb5 c (msg5 m (xp c)) from rfl)) $$ Hrb
  iapply (load_got c (M := rbM) (fun _ => rfl)) $$ Hrb; iintro Hrb
  rw [wp_ret]; imodintro
  iapply Hk
  isplitl [HO]; · iexact HO
  isplitl [HaS]; · iexact HaS
  isplitl [HaR]; · iexact HaR
  isplitl [Hrb]; · iexact Hrb
  isplitl [Hout]; · iexact Hout
  iexact Hsb

end Cert.KernelIdeal.Net

end
-- ==== Proof.Parts.lean ====
/-
  The stretches of the kernel that only read: each leaves the key/value scratch and the staged `Wo` in place and hands on the
  values it computed from them.
-/
module

public import proofs.«01_k».proof.Proof.Proto
public import Idealize.ShloMosaic.Lib.Tactic

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

theorem part5_run (c : Dev nD) (kv : S2x1024x8x128.Idx → Elt F .f32) (wo : S1024x1024.Idx → Elt F .f32) (v110 : FVec F S512x1024 .f32) (v137 : IVec S512x1024 32)
    (Kt : (Σ' (v172 : IVec S512x1024 1) (v173 : FVec F S512x1024 .f32) (v175 : FVec F S512x128 .bf16), FVec F S1024x128 .bf16) → sProp 𝕄) :
    iprop(pt c cc0_scratch0 kv ∗ pt c cc0_stg2_0 wo ∗ (iprop(pt c cc0_scratch0 kv ∗ pt c cc0_stg2_0 wo) -∗ Kt ⟨k0_pay4 v137, k0_pay5 (F := F), k0_pay6 v110, k0_pay7 (ldK0 kv)⟩))
      ⊢ wp frame (wpE (defs₀ (F := F)) 𝒱₀ c none) Set.univ (k0_part5 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v110 v137) Kt := by
  rw [k0_part5_eq_skeleton]; unfold k0_part5_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part6_run (c : Dev nD) (kv : S2x1024x8x128.Idx → Elt F .f32) (wo : S1024x1024.Idx → Elt F .f32) (v110 : FVec F S512x1024 .f32) (v172 : IVec S512x1024 1) (v173 : FVec F S512x1024 .f32) (v175 : FVec F S512x128 .bf16) (v178 : FVec F S1024x128 .bf16)
    (Kt : (Σ' (v199 : FVec F S512x1024 .f32) (v215 : FVec F S512x1 .f32), FVec F S512x128 .f32) → sProp 𝕄) :
    iprop(pt c cc0_scratch0 kv ∗ pt c cc0_stg2_0 wo ∗ (iprop(pt c cc0_scratch0 kv ∗ pt c cc0_stg2_0 wo) -∗ Kt ⟨k0_pay8 v172 v173 v175 v178 (ldV0 kv) (ldO0 wo), k0_pay10 v110 v172 (ldK1 kv), k0_pay11 v110 v172 (ldK1 kv) (ldV1 kv)⟩))
      ⊢ wp frame (wpE (defs₀ (F := F)) 𝒱₀ c none) Set.univ (k0_part6 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v110 v172 v173 v175 v178) Kt := by
  rw [k0_part6_eq_skeleton]; unfold k0_part6_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part7_run (c : Dev nD) (kv : S2x1024x8x128.Idx → Elt F .f32) (wo : S1024x1024.Idx → Elt F .f32) (v110 : FVec F S512x1024 .f32) (v172 : IVec S512x1024 1) (v199 : FVec F S512x1024 .f32) (v215 : FVec F S512x1 .f32) (v217 : FVec F S512x128 .f32)
    (Kt : (Σ' (v251 : FVec F S512x1024 .f32) (v253 : FVec F S512x128 .bf16), Vec F S1x1024x1x128 .f32) → sProp 𝕄) :
    iprop(pt c cc0_scratch0 kv ∗ pt c cc0_stg2_0 wo ∗ (iprop(pt c cc0_scratch0 kv ∗ pt c cc0_stg2_0 wo) -∗ Kt ⟨k0_pay12 v110 v172 v199 v215 v217 (ldO1 wo) (ldK2 kv) (ldV2 kv) (ldO2 wo), k0_pay13 v110, (ldK3 kv)⟩))
      ⊢ wp frame (wpE (defs₀ (F := F)) 𝒱₀ c none) Set.univ (k0_part7 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v110 v172 v199 v215 v217) Kt := by
  rw [k0_part7_eq_skeleton]; unfold k0_part7_skel
  simp only [Prog.lift, Prog.bind_op, Prog.bind_ret, Prog.pure_eq_ret]
  iintro ⟨Hkv, Hwo, Hk⟩
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part8_run (c : Dev nD) (kv : S2x1024x8x128.Idx → Elt F .f32) (wo : S1024x1024.Idx → Elt F .f32) (v110 : FVec F S512x1024 .f32) (v172 : IVec S512x1024 1) (v251 : FVec F S512x1024 .f32) (v253 : FVec F S512x128 .bf16) (v254 : Vec F S1x1024x1x128 .f32)
    (Kt : (Σ' (v277 : FVec F S512x1024 .f32) (v285 : FVec F S1024x128 .bf16) (v289 : FVec F S512x1024 .f32), FVec F S512x1 .f32) → sProp 𝕄) :
    iprop(pt c cc0_scratch0 kv ∗ pt c cc0_stg2_0 wo ∗ (iprop(pt c cc0_scratch0 kv ∗ pt c cc0_stg2_0 wo) -∗ Kt ⟨k0_pay14 v172 v251 v253 v254 (ldV3 kv) (ldO3 wo), k0_pay15 (ldV4 kv), k0_pay16 v110 v172 (ldK4 kv), k0_pay17 v110 v172 (ldK4 kv)⟩))
      ⊢ wp frame (wpE (defs₀ (F := F)) 𝒱₀ c none) Set.univ (k0_part8 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v110 v172 v251 v253 v254) Kt := by
  rw [k0_part8_eq_skeleton]; unfold k0_part8_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part9_run (c : Dev nD) (kv : S2x1024x8x128.Idx → Elt F .f32) (wo : S1024x1024.Idx → Elt F .f32) (v110 : FVec F S512x1024 .f32) (v172 : IVec S512x1024 1) (v277 : FVec F S512x1024 .f32) (v285 : FVec F S1024x128 .bf16) (v289 : FVec F S512x1024 .f32) (v291 : FVec F S512x1 .f32)
    (Kt : (Σ' (v329 : FVec F S512x1024 .f32), FVec F S512x128 .f32) → sProp 𝕄) :
    iprop(pt c cc0_scratch0 kv ∗ pt c cc0_stg2_0 wo ∗ (iprop(pt c cc0_scratch0 kv ∗ pt c cc0_stg2_0 wo) -∗ Kt ⟨k0_pay18 v110 v172 v277 v285 v289 v291 (ldO4 wo) (ldK5 kv) (ldV5 kv) (ldO5 wo), k0_pay19 v110⟩))
      ⊢ wp frame (wpE (defs₀ (F := F)) 𝒱₀ c none) Set.univ (k0_part9 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v110 v172 v277 v285 v289 v291) Kt := by
  rw [k0_part9_eq_skeleton]; unfold k0_part9_skel
  simp only [Prog.lift, Prog.bind_op, Prog.bind_ret, Prog.pure_eq_ret]
  iintro ⟨Hkv, Hwo, Hk⟩
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  rw [wp_ret]; imodintro; iapply Hk
  isplitl [Hkv]; · iexact Hkv
  iexact Hwo

theorem part10_run (c : Dev nD) (kv : S2x1024x8x128.Idx → Elt F .f32) (wo : S1024x1024.Idx → Elt F .f32) (v110 : FVec F S512x1024 .f32) (v172 : IVec S512x1024 1) (v329 : FVec F S512x1024 .f32) (v330 : FVec F S512x128 .f32)
    (Kt : (Σ' (v355 : FVec F S512x1024 .f32) (v363 : FVec F S1024x128 .bf16) (v364 : FVec F S512x1024 .f32), F .f32) → sProp 𝕄) :
    iprop(pt c cc0_scratch0 kv ∗ pt c cc0_stg2_0 wo ∗ (iprop(pt c cc0_scratch0 kv ∗ pt c cc0_stg2_0 wo) -∗ Kt ⟨k0_pay20 v172 v329 v330 (ldK6 kv) (ldV6 kv) (ldO6 wo), k0_pay21 (ldV7 kv), k0_pay22 v110 (ldK7 kv), (Scalar.ofBits .f32 0xCE6E6B28#32)⟩))
      ⊢ wp frame (wpE (defs₀ (F := F)) 𝒱₀ c none) Set.univ (k0_part10 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v110 v172 v329 v330) Kt := by
  rw [k0_part10_eq_skeleton]; unfold k0_part10_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part12_run (c : Dev nD) (kv : S2x1024x8x128.Idx → Elt F .f32) (wo : S1024x1024.Idx → Elt F .f32) (v401 : IVec S512x1024 32) (v402 : IVec S512x1024 32)
    (Kt : (Σ' (v427 : IVec S512x1024 32) (v430 : IVec S512x1024 32), IVec S512x1024 1) → sProp 𝕄) :
    iprop(pt c cc0_scratch0 kv ∗ pt c cc0_stg2_0 wo ∗ (iprop(pt c cc0_scratch0 kv ∗ pt c cc0_stg2_0 wo) -∗ Kt ⟨k0_pay27 v401 v402, k0_pay28, k0_pay29⟩))
      ⊢ wp frame (wpE (defs₀ (F := F)) 𝒱₀ c none) Set.univ (k0_part12 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v401 v402) Kt := by
  rw [k0_part12_eq_skeleton]; unfold k0_part12_skel
  simp only [Prog.lift, Prog.bind_op, Prog.bind_ret, Prog.pure_eq_ret]
  iintro ⟨Hkv, Hwo, Hk⟩
  rw [wp_ret]; imodintro; iapply Hk
  isplitl [Hkv]; · iexact Hkv
  iexact Hwo

theorem part13_run (c : Dev nD) (kv : S2x1024x8x128.Idx → Elt F .f32) (wo : S1024x1024.Idx → Elt F .f32) (v400 : FVec F S512x1024 .f32) (v427 : IVec S512x1024 32) (v430 : IVec S512x1024 32) (v449 : IVec S512x1024 1)
    (Kt : (Σ' (v462 : IVec S512x1024 1) (v463 : FVec F S512x1024 .f32), FVec F S512x1024 .f32) → sProp 𝕄) :
    iprop(pt c cc0_scratch0 kv ∗ pt c cc0_stg2_0 wo ∗ (iprop(pt c cc0_scratch0 kv ∗ pt c cc0_stg2_0 wo) -∗ Kt ⟨k0_pay30 v427 v430 v449, k0_pay31 (F := F), k0_pay32 v400 v427 v430 v449 (ldK0 kv) (ldV0 kv) (ldO0 wo)⟩))
      ⊢ wp frame (wpE (defs₀ (F := F)) 𝒱₀ c none) Set.univ (k0_part13 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v400 v427 v430 v449) Kt := by
  rw [k0_part13_eq_skeleton]; unfold k0_part13_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  rw [wp_ret]; imodintro; iapply Hk
  isplitl [Hkv]; · iexact Hkv
  iexact Hwo

theorem part14_run (c : Dev nD) (kv : S2x1024x8x128.Idx → Elt F .f32) (wo : S1024x1024.Idx → Elt F .f32) (v400 : FVec F S512x1024 .f32) (v462 : IVec S512x1024 1) (v463 : FVec F S512x1024 .f32) (v488 : FVec F S512x1024 .f32)
    (Kt : (Σ' (v515 : FVec F S512x1024 .f32) (v517 : FVec F S512x128 .bf16) (v520 : FVec F S1024x128 .bf16) (v523 : FVec F S1024x128 .bf16), FVec F S512x1024 .f32) → sProp 𝕄) :
    iprop(pt c cc0_scratch0 kv ∗ pt c cc0_stg2_0 wo ∗ (iprop(pt c cc0_scratch0 kv ∗ pt c cc0_stg2_0 wo) -∗ Kt ⟨k0_pay33 v400 v462 v463 v488 (ldK1 kv) (ldV1 kv) (ldO1 wo), k0_pay34 v400, k0_pay35 (ldK2 kv), k0_pay36 (ldV2 kv), (constant S512x1024 .f32 0x00000000#32)⟩))
      ⊢ wp frame (wpE (defs₀ (F := F)) 𝒱₀ c none) Set.univ (k0_part14 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v400 v462 v463 v488) Kt := by
  rw [k0_part14_eq_skeleton]; unfold k0_part14_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part15_run (c : Dev nD) (kv : S2x1024x8x128.Idx → Elt F .f32) (wo : S1024x1024.Idx → Elt F .f32) (v400 : FVec F S512x1024 .f32) (v462 : IVec S512x1024 1) (v515 : FVec F S512x1024 .f32) (v517 : FVec F S512x128 .bf16) (v520 : FVec F S1024x128 .bf16) (v523 : FVec F S1024x128 .bf16) (cst_276 : FVec F S512x1024 .f32)
    (Kt : (Σ' (v541 : FVec F S512x1024 .f32), FVec F S512x128 .bf16) → sProp 𝕄) :
    iprop(pt c cc0_scratch0 kv ∗ pt c cc0_stg2_0 wo ∗ (iprop(pt c cc0_scratch0 kv ∗ pt c cc0_stg2_0 wo) -∗ Kt ⟨k0_pay37 v462 v515 v517 v520 v523 cst_276 (ldO2 wo), k0_pay38 v400 v462 (ldK3 kv) (ldV3 kv)⟩))
      ⊢ wp frame (wpE (defs₀ (F := F)) 𝒱₀ c none) Set.univ (k0_part15 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v400 v462 v515 v517 v520 v523 cst_276) Kt := by
  rw [k0_part15_eq_skeleton]; unfold k0_part15_skel
  simp only [Prog.lift, Prog.bind_op, Prog.bind_ret, Prog.pure_eq_ret]
  iintro ⟨Hkv, Hwo, Hk⟩
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part16_run (c : Dev nD) (kv : S2x1024x8x128.Idx → Elt F .f32) (wo : S1024x1024.Idx → Elt F .f32) (v400 : FVec F S512x1024 .f32) (v462 : IVec S512x1024 1) (v541 : FVec F S512x1024 .f32) (v562 : FVec F S512x128 .bf16)
    (Kt : (Σ' (v593 : FVec F S512x1024 .f32) (v595 : FVec F S512x128 .bf16), FVec F S1024x128 .bf16) → sProp 𝕄) :
    iprop(pt c cc0_scratch0 kv ∗ pt c cc0_stg2_0 wo ∗ (iprop(pt c cc0_scratch0 kv ∗ pt c cc0_stg2_0 wo) -∗ Kt ⟨k0_pay39 v400 v462 v541 v562 (ldO3 wo) (ldK4 kv) (ldV4 kv) (ldO4 wo), k0_pay40 v400, k0_pay41 (ldK5 kv)⟩))
      ⊢ wp frame (wpE (defs₀ (F := F)) 𝒱₀ c none) Set.univ (k0_part16 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v400 v462 v541 v562) Kt := by
  rw [k0_part16_eq_skeleton]; unfold k0_part16_skel
  simp only [Prog.lift, Prog.bind_op, Prog.bind_ret, Prog.pure_eq_ret]
  iintro ⟨Hkv, Hwo, Hk⟩
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  rw [wp_ret]; imodintro; iapply Hk
  isplitl [Hkv]; · iexact Hkv
  iexact Hwo

theorem part17_run (c : Dev nD) (kv : S2x1024x8x128.Idx → Elt F .f32) (wo : S1024x1024.Idx → Elt F .f32) (v400 : FVec F S512x1024 .f32) (v462 : IVec S512x1024 1) (v593 : FVec F S512x1024 .f32) (v595 : FVec F S512x128 .bf16) (v598 : FVec F S1024x128 .bf16)
    (Kt : (Σ' (v619 : FVec F S512x1024 .f32) (v627 : FVec F S1024x128 .bf16) (v635 : FVec F S512x1 .f32), FVec F S512x1024 .bf16) → sProp 𝕄) :
    iprop(pt c cc0_scratch0 kv ∗ pt c cc0_stg2_0 wo ∗ (iprop(pt c cc0_scratch0 kv ∗ pt c cc0_stg2_0 wo) -∗ Kt ⟨k0_pay42 v462 v593 v595 v598 (ldV5 kv) (ldO5 wo), k0_pay43 (ldV6 kv), k0_pay45 v400 v462 (ldK6 kv), k0_pay46 v400 v462 (ldK6 kv)⟩))
      ⊢ wp frame (wpE (defs₀ (F := F)) 𝒱₀ c none) Set.univ (k0_part17 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 v400 v462 v593 v595 v598) Kt := by
  rw [k0_part17_eq_skeleton]; unfold k0_part17_skel
  simp only [Prog.lift, Prog.bind_op, Prog.bind_ret, Prog.pure_eq_ret]
  iintro ⟨Hkv, Hwo, Hk⟩
  iapply (wp_load 𝒱₀ (c : Thread nD τ) none Set.univ (m := kvM) (Finset.subset_univ _)) $$ Hkv; iintro Hkv
  iapply (wp_load 𝒱₀ (c : Thread nD τ) none Set.univ (m := woM) (Finset.subset_univ _)) $$ Hwo; iintro Hwo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  rw [wp_ret]; imodintro; iapply Hk
  isplitl [Hkv]; · iexact Hkv
  iexact Hwo

end Cert.KernelIdeal.Net

end
-- ==== Proof.Chain.lean ====
/-
  The kernel's straight-line arithmetic is the eight heads of `Values.lean`, one after another: each stretch's values are named
  by the number of heads they have added.
-/
module

public import proofs.«01_k».proof.Proof.Values

@[expose] public section

set_option maxRecDepth 65536

noncomputable section

namespace Cert.KernelIdeal.Net

open Cert.KernelIdeal Cert.KernelIdeal.Gen
open Idealize.ShloMosaic Idealize.ShloMosaic.TcCoe
open Idealize.SL.Sem

variable {F : FTy → Type} [FloatOps F]

section Half

variable (mk : IVec S512x1024 1) (q : FVec F S512x1024 .f32) (kv : S2x1024x8x128.Idx → Elt F .f32) (wo : S1024x1024.Idx → Elt F .f32)

/-! ## The half sent first -/

theorem fst0 : k0_pay8 mk (k0_pay5 (F := F)) (k0_pay6 q) (k0_pay7 (ldK0 kv)) (ldV0 kv) (ldO0 wo) = at0 mk q kv wo := rfl
theorem fst2 : k0_pay12 q mk (at0 mk q kv wo) (k0_pay10 q mk (ldK1 kv)) (k0_pay11 q mk (ldK1 kv) (ldV1 kv)) (ldO1 wo) (ldK2 kv) (ldV2 kv) (ldO2 wo) = at2 mk q kv wo := rfl
theorem fst3 : k0_pay14 mk (at2 mk q kv wo) (k0_pay13 q) (ldK3 kv) (ldV3 kv) (ldO3 wo) = at3 mk q kv wo := rfl
theorem fst5 : k0_pay18 q mk (at3 mk q kv wo) (k0_pay15 (ldV4 kv)) (k0_pay16 q mk (ldK4 kv)) (k0_pay17 q mk (ldK4 kv)) (ldO4 wo) (ldK5 kv) (ldV5 kv) (ldO5 wo) = at5 mk q kv wo := rfl
theorem fst6 : k0_pay20 mk (at5 mk q kv wo) (k0_pay19 q) (ldK6 kv) (ldV6 kv) (ldO6 wo) = at6 mk q kv wo := rfl
theorem fst7 : k0_pay23 mk (at6 mk q kv wo) (k0_pay21 (ldV7 kv)) (k0_pay22 q (ldK7 kv)) (Scalar.ofBits .f32 0xCE6E6B28#32) (ldO7 wo) = at7 mk q kv wo := rfl
theorem fst_msg : k0_pay24 mk (at6 mk q kv wo) (k0_pay21 (ldV7 kv)) (k0_pay22 q (ldK7 kv)) (Scalar.ofBits .f32 0xCE6E6B28#32) (ldO7 wo)
    = shapeCast S512x1024 (truncf .bf16 (at7 mk q kv wo) bitsLt_bf16_f32) shapeCasts_S512x1024_S512x1024 := rfl

end Half

section Other

variable (a b : IVec S512x1024 32) (d : IVec S512x1024 1) (q : FVec F S512x1024 .f32) (kv : S2x1024x8x128.Idx → Elt F .f32) (wo : S1024x1024.Idx → Elt F .f32)

/-! ## The half kept -/

theorem snd1 : k0_pay33 q (k0_pay30 a b d) (k0_pay31 (F := F)) (k0_pay32 q a b d (ldK0 kv) (ldV0 kv) (ldO0 wo)) (ldK1 kv) (ldV1 kv) (ldO1 wo) = at1 (k0_pay30 a b d) q kv wo := rfl
variable (mk : IVec S512x1024 1)
theorem snd2 : k0_pay37 mk (at1 mk q kv wo) (k0_pay34 q) (k0_pay35 (ldK2 kv)) (k0_pay36 (ldV2 kv)) (constant S512x1024 .f32 0x00000000#32) (ldO2 wo) = at2 mk q kv wo := rfl
theorem snd4 : k0_pay39 q mk (at2 mk q kv wo) (k0_pay38 q mk (ldK3 kv) (ldV3 kv)) (ldO3 wo) (ldK4 kv) (ldV4 kv) (ldO4 wo) = at4 mk q kv wo := rfl
theorem snd5 : k0_pay42 mk (at4 mk q kv wo) (k0_pay40 q) (k0_pay41 (ldK5 kv)) (ldV5 kv) (ldO5 wo) = at5 mk q kv wo := rfl
theorem snd7 : k0_pay47 q mk (at5 mk q kv wo) (k0_pay43 (ldV6 kv)) (k0_pay45 q mk (ldK6 kv)) (k0_pay46 q mk (ldK6 kv)) (ldO6 wo) (ldK7 kv) (ldV7 kv) (ldO7 wo) = at7 mk q kv wo := rfl
theorem snd_mask (w : BitVec 32) : k0_pay30 (k0_pay27 (iota .tc S512x1024 32 [0] iota_S512x1024_d0_w32) (k0_pay26 w)) k0_pay28 k0_pay29 = maskW w := rfl
theorem snd_query (wq : FVec F S1024x1024 .bf16) (x : Vec F S512x1024 .f32) : k0_pay25 wq x = k0_pay2 wq x := rfl

end Other

end Cert.KernelIdeal.Net

end
-- ==== Proof.Kern.lean ====
/-
  The whole kernel on a symbolic device: from the launch's ghost state and the staged inputs to the result's staging buffer at
  `out6`, every semaphore's one round over and every other buffer back.
-/
module

public import proofs.«01_k».proof.Proof.Body
public import proofs.«01_k».proof.Proof.Parts
public import proofs.«01_k».proof.Proof.Chain

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD) (K : GSem nD τ sig → ℕ)

/-! ## The receive buffer in its six regions -/

theorem mem_rows (o : ℕ) (sz : Fin 2 → ℕ) (inb : ∀ a, (![o, 0] : Fin 2 → ℕ) a + sz a ≤ S1792x1024.size a) (h1 : sz 1 = 1024) (i : S1792x1024.Idx) :
    i ∈ (rbM.slice (Rect.unit (s := S1792x1024) ![o, 0] sz inb) (fun _ => rfl)).view.set ↔ o ≤ (i 0).val ∧ (i 0).val < o + sz 0 := by
  rw [show (rbM.slice (Rect.unit (s := S1792x1024) ![o, 0] sz inb) (fun _ => rfl)).view.set = (Rect.unit (s := S1792x1024) ![o, 0] sz inb).set from View.set_slice_whole _ _,
    Rect.mem_set_unit, Fin.forall_fin_two]
  have h : (i 1).val < 1024 := (i 1).isLt
  show (o ≤ (i 0).val ∧ (i 0).val < o + sz 0) ∧ (0 ≤ (i 1).val ∧ (i 1).val < 0 + sz 1) ↔ _
  rw [h1]; omega

theorem mem_rb0 (i : S1792x1024.Idx) : i ∈ rb0.view.set ↔ 0 ≤ (i 0).val ∧ (i 0).val < 0 + 512 := mem_rows 0 _ _ rfl i
theorem mem_rb1 (i : S1792x1024.Idx) : i ∈ rb1.view.set ↔ 512 ≤ (i 0).val ∧ (i 0).val < 512 + 256 := mem_rows 512 _ _ rfl i
theorem mem_rb2 (i : S1792x1024.Idx) : i ∈ rb2.view.set ↔ 768 ≤ (i 0).val ∧ (i 0).val < 768 + 128 := mem_rows 768 _ _ rfl i
theorem mem_rb3 (i : S1792x1024.Idx) : i ∈ rb3.view.set ↔ 896 ≤ (i 0).val ∧ (i 0).val < 896 + 128 := mem_rows 896 _ _ rfl i
theorem mem_rb4 (i : S1792x1024.Idx) : i ∈ rb4.view.set ↔ 1024 ≤ (i 0).val ∧ (i 0).val < 1024 + 256 := mem_rows 1024 _ _ rfl i
theorem mem_rb5 (i : S1792x1024.Idx) : i ∈ rb5.view.set ↔ 1280 ≤ (i 0).val ∧ (i 0).val < 1280 + 512 := mem_rows 1280 _ _ rfl i

/-- The regions from the fifth on, from the fourth on, and so up to all. -/
def from4 : Finset S1792x1024.Idx := rb4.view.set ∪ rb5.view.set
def from3 : Finset S1792x1024.Idx := rb3.view.set ∪ from4
def from2 : Finset S1792x1024.Idx := rb2.view.set ∪ from3
def from1 : Finset S1792x1024.Idx := rb1.view.set ∪ from2

theorem mem_from4 (i : S1792x1024.Idx) : i ∈ from4 ↔ 1024 ≤ (i 0).val := by
  have h : (i 0).val < 1792 := (i 0).isLt
  unfold from4; rw [Finset.mem_union, mem_rb4, mem_rb5]; omega
theorem mem_from3 (i : S1792x1024.Idx) : i ∈ from3 ↔ 896 ≤ (i 0).val := by
  unfold from3; rw [Finset.mem_union, mem_rb3, mem_from4]; omega
theorem mem_from2 (i : S1792x1024.Idx) : i ∈ from2 ↔ 768 ≤ (i 0).val := by
  unfold from2; rw [Finset.mem_union, mem_rb2, mem_from3]; omega
theorem mem_from1 (i : S1792x1024.Idx) : i ∈ from1 ↔ 512 ≤ (i 0).val := by
  unfold from1; rw [Finset.mem_union, mem_rb1, mem_from2]; omega
theorem dis4 : Disjoint rb4.view.set rb5.view.set := Finset.disjoint_left.mpr fun i h h' => by rw [mem_rb4] at h; rw [mem_rb5] at h'; omega
theorem dis3 : Disjoint rb3.view.set from4 := Finset.disjoint_left.mpr fun i h h' => by rw [mem_rb3] at h; rw [mem_from4] at h'; omega
theorem dis2 : Disjoint rb2.view.set from3 := Finset.disjoint_left.mpr fun i h h' => by rw [mem_rb2] at h; rw [mem_from3] at h'; omega
theorem dis1 : Disjoint rb1.view.set from2 := Finset.disjoint_left.mpr fun i h h' => by rw [mem_rb1] at h; rw [mem_from2] at h'; omega
theorem dis0 : Disjoint rb0.view.set from1 := Finset.disjoint_left.mpr fun i h h' => by rw [mem_rb0] at h; rw [mem_from1] at h'; omega
theorem rb_all : (Finset.univ : Finset S1792x1024.Idx) = rb0.view.set ∪ from1 := by
  ext i; rw [Finset.mem_union, mem_rb0, mem_from1]; simp only [Finset.mem_univ, true_iff]; omega

/-- The receive buffer is its six regions. -/
theorem rb_split : iprop(∃ f : S1792x1024.Idx → Elt F .bf16, pt c cc0_scratch2 f)
    ⊢ (iprop(anyAt rb0 c ∗ anyAt rb1 c ∗ anyAt rb2 c ∗ anyAt rb3 c ∗ anyAt rb4 c ∗ anyAt rb5 c) : sProp 𝕄) := by
  unfold anyAt
  iintro ⟨%f, H⟩
  ihave H := (Entails.of_eq (show pt c cc0_scratch2 f = ((Memref.whole cc0_scratch2).view.loc (c : Thread nD τ) ↦[rb0.view.set ∪ from1]{fullShare} f : sProp 𝕄) by
    rw [← rb_all])) $$ H
  ihave H := (pointsTo_union dis0).1 $$ H
  icases H with ⟨H0, H⟩
  ihave H := (Entails.of_eq (show ((Memref.whole cc0_scratch2).view.loc (c : Thread nD τ) ↦[from1]{fullShare} f : sProp 𝕄) = ((Memref.whole cc0_scratch2).view.loc (c : Thread nD τ) ↦[rb1.view.set ∪ from2]{fullShare} f) from rfl)) $$ H
  ihave H := (pointsTo_union dis1).1 $$ H
  icases H with ⟨H1, H⟩
  ihave H := (Entails.of_eq (show ((Memref.whole cc0_scratch2).view.loc (c : Thread nD τ) ↦[from2]{fullShare} f : sProp 𝕄) = ((Memref.whole cc0_scratch2).view.loc (c : Thread nD τ) ↦[rb2.view.set ∪ from3]{fullShare} f) from rfl)) $$ H
  ihave H := (pointsTo_union dis2).1 $$ H
  icases H with ⟨H2, H⟩
  ihave H := (Entails.of_eq (show ((Memref.whole cc0_scratch2).view.loc (c : Thread nD τ) ↦[from3]{fullShare} f : sProp 𝕄) = ((Memref.whole cc0_scratch2).view.loc (c : Thread nD τ) ↦[rb3.view.set ∪ from4]{fullShare} f) from rfl)) $$ H
  ihave H := (pointsTo_union dis3).1 $$ H
  icases H with ⟨H3, H⟩
  ihave H := (Entails.of_eq (show ((Memref.whole cc0_scratch2).view.loc (c : Thread nD τ) ↦[from4]{fullShare} f : sProp 𝕄) = ((Memref.whole cc0_scratch2).view.loc (c : Thread nD τ) ↦[rb4.view.set ∪ rb5.view.set]{fullShare} f) from rfl)) $$ H
  ihave H := (pointsTo_union dis4).1 $$ H
  icases H with ⟨H4, H⟩
  isplitl [H0]; · iexists f; iexact H0
  isplitl [H1]; · iexists f; iexact H1
  isplitl [H2]; · iexists f; iexact H2
  isplitl [H3]; · iexists f; iexact H3
  isplitl [H4]; · iexists f; iexact H4
  iexists f; iexact H

/-- And back, whatever the regions hold. -/
theorem rb_join : iprop(anyAt rb0 c ∗ anyAt rb1 c ∗ anyAt rb2 c ∗ anyAt rb3 c ∗ anyAt rb4 c ∗ anyAt rb5 c)
    ⊢ (iprop(∃ f : S1792x1024.Idx → Elt F .bf16, pt c cc0_scratch2 f) : sProp 𝕄) := by
  unfold anyAt
  iintro ⟨⟨%f0, H0⟩, ⟨%f1, H1⟩, ⟨%f2, H2⟩, ⟨%f3, H3⟩, ⟨%f4, H4⟩, ⟨%f5, H5⟩⟩
  ihave H4 := (pointsTo_join (ℓ := (Memref.whole cc0_scratch2).view.loc (c : Thread nD τ)) dis4) $$ [H4 H5]
  · isplitl [H4]; · iexact H4
    iexact H5
  ihave H3 := (pointsTo_join (ℓ := (Memref.whole cc0_scratch2).view.loc (c : Thread nD τ)) dis3) $$ [H3 H4]
  · isplitl [H3]; · iexact H3
    iexact H4
  ihave H2 := (pointsTo_join (ℓ := (Memref.whole cc0_scratch2).view.loc (c : Thread nD τ)) dis2) $$ [H2 H3]
  · isplitl [H2]; · iexact H2
    iexact H3
  ihave H1 := (pointsTo_join (ℓ := (Memref.whole cc0_scratch2).view.loc (c : Thread nD τ)) dis1) $$ [H1 H2]
  · isplitl [H1]; · iexact H1
    iexact H2
  ihave H0 := (pointsTo_join (ℓ := (Memref.whole cc0_scratch2).view.loc (c : Thread nD τ)) dis0) $$ [H0 H1]
  · isplitl [H0]; · iexact H0
    iexact H1
  iexists _
  iapply (Entails.of_eq (show ((Memref.whole cc0_scratch2).view.loc (c : Thread nD τ) ↦[rb0.view.set ∪ from1]{fullShare} _ : sProp 𝕄) = pt c cc0_scratch2 _ by rw [← rb_all]))
  iexact H0

/-! ## The kernel -/

/-- The fourteen cells of the kernel's own semaphores, open and nothing received; the same with round 0 reached; and with
    their round over. -/
def freshAll : sProp 𝕄 := iprop(fresh c kvS0 ∗ fresh c kvS1 ∗ fresh c snS0 ∗ fresh c snS1 ∗ fresh c snS2 ∗ fresh c snS3 ∗ fresh c snS4 ∗ fresh c snS5 ∗ fresh c rcS0 ∗ fresh c rcS1 ∗ fresh c rcS2 ∗ fresh c rcS3 ∗ fresh c rcS4 ∗ fresh c rcS5)
def reachedAll : sProp 𝕄 := iprop(reached ER (dCell kvS0 c) 0 ∗ reached ER (dCell kvS1 c) 0 ∗ reached ER (dCell snS0 c) 0 ∗ reached ER (dCell snS1 c) 0 ∗ reached ER (dCell snS2 c) 0 ∗ reached ER (dCell snS3 c) 0 ∗ reached ER (dCell snS4 c) 0 ∗ reached ER (dCell snS5 c) 0 ∗ reached ER (dCell rcS0 c) 0 ∗ reached ER (dCell rcS1 c) 0 ∗ reached ER (dCell rcS2 c) 0 ∗ reached ER (dCell rcS3 c) 0 ∗ reached ER (dCell rcS4 c) 0 ∗ reached ER (dCell rcS5 c) 0)
def doneAll : sProp 𝕄 := iprop(done c kvS0 ∗ done c kvS1 ∗ done c snS0 ∗ done c snS1 ∗ done c snS2 ∗ done c snS3 ∗ done c snS4 ∗ done c snS5 ∗ done c rcS0 ∗ done c rcS1 ∗ done c rcS2 ∗ done c rcS3 ∗ done c rcS4 ∗ done c rcS5)

/-- The buffers the kernel uses besides the result's. -/
def bufs' : sProp 𝕄 :=
  iprop(pt c cc0_stg0_0 (xstg m c) ∗ pt c cc0_stg1_0 (wqstg m c) ∗ pt c cc0_stg2_0 (wostg m c)
    ∗ pt c main_arg2 (V m c main_arg2) ∗ pt c main_arg3 (V m c main_arg3)
    ∗ (∃ f : S2x1024x8x128.Idx → Elt F .f32, pt c cc0_scratch0 f) ∗ anySb c ∗ (∃ f : S1792x1024.Idx → Elt F .bf16, pt c cc0_scratch2 f))

set_option maxHeartbeats 4000000 in
theorem kernel_run (Kt : PUnit → sProp 𝕄) :
    iprop(invs m K ∗ levAts L lv ∗ ow c (O₀ c) ∗ tokens c ∗ credits c
        ∗ (reached ER (barCell (xp c)) 0 ∗ reached ER (barCell (yp c)) 0 ∗ reached ER (barCell (zp c)) 0) ∗ atPos ER (barCell c) 0 ∅ 0
        ∗ freshAll c ∗ reachedAll c ∗ (∃ f : OutT F, pt c cc0_stg3_0 f) ∗ bufs' m c
        ∗ ((ow c 0 ∗ atPos ER (barCell c) (0 + 1) ∅ 0 ∗ doneAll c ∗ pt c cc0_stg3_0 (out6 m c) ∗ bufs' m c) -∗ |={Set.univ}=> Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Kt := by
  rw [cc0_body_eq_skeleton]; unfold cc0_body_skel
  unfold tokens credits freshAll reachedAll doneAll bufs'
  iintro ⟨#HI, #HL, HO, ⟨Htx, Hty, Htz, Htk0, Htk1, Hts0, Hts1, Hts2, Hts3, Hts4, Hts5, Htr0, Htr1, Htr2, Htr3, Htr4, Htr5⟩, ⟨Hcb, Hcr0, Hcr1, Hcr2, Hcr3, Hcr4, Hcr5⟩, ⟨Hrx, Hry, Hrz⟩, Hab, ⟨Hak0, Hak1, Has0, Has1, Has2, Has3, Has4, Has5, Har0, Har1, Har2, Har3, Har4, Har5⟩, ⟨HRk0, HRk1, HRs0, HRs1, HRs2, HRs3, HRs4, HRs5, #HR0, #HR1, #HR2, #HR3, #HR4, #HR5⟩, Hout, ⟨Hx, Hwq, Hwo, Hk, Hv, Hkv, Hsb, Hrb⟩, Hend⟩
  ihave Hrb := (rb_split c) $$ Hrb
  icases Hrb with ⟨Hb0, Hb1, Hb2, Hb3, Hb4, Hb5⟩
  rw [wp_bind]
  iapply (part1_run c)
  iintro %w2 %w19 %w37
  dsimp only
  rw [wp_bind]
  iapply (part2_run m c K w2 w19 w37 (w39 c) 1#32)
  isplitr; · iexact HI
  isplitr; · iexact HL
  isplitl [HO]; · iexact HO
  isplitl [Htx]; · iexact Htx
  isplitl [Hty]; · iexact Hty
  isplitl [Htz]; · iexact Htz
  isplitl [Hrx]; · iexact Hrx
  isplitl [Hry]; · iexact Hry
  isplitl [Hrz]; · iexact Hrz
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitr; · iexact HR0
  isplitr; · iexact HR1
  isplitr; · iexact HR2
  isplitr; · iexact HR3
  isplitr; · iexact HR4
  isplitr; · iexact HR5
  isplitl [Hcb]; · iexact Hcb
  isplitl [Hab]; · iexact Hab
  iintro %w46 %w53 %w55 ⟨HO, Hab, Hpx, Hpy, Hpz⟩
  dsimp only
  ihave Hpx := (Entails.of_eq (show barPay c 0 = iprop(anyAt rb0 (xp c) ∗ anyAt rb5 (xp c) ∗ reached ER (dCell rcS0 (xp c)) 0 ∗ reached ER (dCell rcS5 (xp c)) 0) from rfl)) $$ Hpx
  icases Hpx with ⟨Hb0, Hb5, HP0, HP5⟩
  ihave Hpy := (Entails.of_eq (show barPay c 1 = iprop(anyAt rb1 (yp c) ∗ anyAt rb4 (yp c) ∗ reached ER (dCell rcS1 (yp c)) 0 ∗ reached ER (dCell rcS4 (yp c)) 0) from rfl)) $$ Hpy
  icases Hpy with ⟨Hb1, Hb4, HP1, HP4⟩
  ihave Hpz := (Entails.of_eq (show barPay c 2 = iprop(anyAt rb2 (zp c) ∗ anyAt rb3 (zp c) ∗ reached ER (dCell rcS2 (zp c)) 0 ∗ reached ER (dCell rcS3 (zp c)) 0) from rfl)) $$ Hpz
  icases Hpz with ⟨Hb2, Hb3, HP2, HP3⟩
  rw [wp_bind]
  iapply (part3_run m c K w19 w37 (wqstg m c))
  isplitr; · iexact HI
  isplitl [Hkv]; · iexact Hkv
  isplitl [Hk]; · iexact Hk
  isplitl [Hv]; · iexact Hv
  isplitl [Htk0]; · iexact Htk0
  isplitl [HRk0]; · iexact HRk0
  isplitl [Htk1]; · iexact Htk1
  isplitl [HRk1]; · iexact HRk1
  isplitl [Hwq]; · iexact Hwq
  iintro %w80 %w83 %w85 %w88 ⟨Hck0, Hck1, Hk, Hv, Hwq⟩
  dsimp only
  rw [wp_bind]
  iapply (part4_run m c K (sxW c) (wqb m c) (xstg m c))
  isplitr; · iexact HI
  isplitr; · iexact HL
  isplitl [HO]; · iexact HO
  isplitl [Hck0]; · iexact Hck0
  isplitl [Hck1]; · iexact Hck1
  isplitl [Hak0]; · iexact Hak0
  isplitl [Hak1]; · iexact Hak1
  isplitl [Hk]; · iexact Hk
  isplitl [Hv]; · iexact Hv
  isplitl [Hx]; · iexact Hx
  iintro ⟨HO, Hak0, Hak1, Hkv, Hk, Hv, Hx⟩
  dsimp only
  rw [show k0_pay2 (wqb m c) (ldX2 c (xstg m c)) = q1 m c from rfl]
  rw [wp_bind]
  iapply (part5_run c (kvF m c) (wostg m c) (q1 m c) (k0_pay3 (sxW c)))
  isplitl [Hkv]; · iexact Hkv
  isplitl [Hwo]; · iexact Hwo
  iintro ⟨Hkv, Hwo⟩
  dsimp only
  rw [show k0_pay4 (k0_pay3 (sxW c)) = maskW (sxW c) from rfl]
  rw [wp_bind]
  iapply (part6_run c (kvF m c) (wostg m c) (q1 m c) (maskW (sxW c)) _ _ _)
  isplitl [Hkv]; · iexact Hkv
  isplitl [Hwo]; · iexact Hwo
  iintro ⟨Hkv, Hwo⟩
  dsimp only
  rw [fst0 (maskW (sxW c)) (q1 m c) (kvF m c) (wostg m c)]
  rw [wp_bind]
  iapply (part7_run c (kvF m c) (wostg m c) (q1 m c) (maskW (sxW c)) _ _ _)
  isplitl [Hkv]; · iexact Hkv
  isplitl [Hwo]; · iexact Hwo
  iintro ⟨Hkv, Hwo⟩
  dsimp only
  rw [fst2 (maskW (sxW c)) (q1 m c) (kvF m c) (wostg m c)]
  rw [wp_bind]
  iapply (part8_run c (kvF m c) (wostg m c) (q1 m c) (maskW (sxW c)) _ _ _)
  isplitl [Hkv]; · iexact Hkv
  isplitl [Hwo]; · iexact Hwo
  iintro ⟨Hkv, Hwo⟩
  dsimp only
  rw [fst3 (maskW (sxW c)) (q1 m c) (kvF m c) (wostg m c)]
  rw [wp_bind]
  iapply (part9_run c (kvF m c) (wostg m c) (q1 m c) (maskW (sxW c)) _ _ _ _)
  isplitl [Hkv]; · iexact Hkv
  isplitl [Hwo]; · iexact Hwo
  iintro ⟨Hkv, Hwo⟩
  dsimp only
  rw [fst5 (maskW (sxW c)) (q1 m c) (kvF m c) (wostg m c)]
  rw [wp_bind]
  iapply (part10_run c (kvF m c) (wostg m c) (q1 m c) (maskW (sxW c)) _ _)
  isplitl [Hkv]; · iexact Hkv
  isplitl [Hwo]; · iexact Hwo
  iintro ⟨Hkv, Hwo⟩
  dsimp only
  rw [fst6 (maskW (sxW c)) (q1 m c) (kvF m c) (wostg m c)]
  icases Hout with ⟨%f, Hout⟩
  rw [wp_bind]
  iapply (part11_run m c K w46 (kxW c) (sxW c) (wqb m c) (maskW (sxW c)) _ _ _ _ (xstg m c) (wostg m c) f (fst_msg (maskW (sxW c)) (q1 m c) (kvF m c) (wostg m c)))
  isplitr; · iexact HI
  isplitl [Hwo]; · iexact Hwo
  isplitl [Hout]; · iexact Hout
  isplitl [Hsb]; · iexact Hsb
  isplitl [Hx]; · iexact Hx
  isplitl [Hb0]; · iexact Hb0
  isplitl [HO]; · iexact HO
  isplitl [Hts0]; · iexact Hts0
  isplitl [HRs0]; · iexact HRs0
  isplitl [Htr0]; · iexact Htr0
  isplitl [HP0]; · iexact HP0
  iintro ⟨Hwo, Hout, Hx, Hrest, Hcs0, HO⟩
  dsimp only
  rw [fst7 (maskW (sxW c)) (q1 m c) (kvF m c) (wostg m c), snd_query, show k0_pay2 (wqb m c) (ldX3 c (xstg m c)) = q2 m c from rfl, show at7 (maskW (sxW c)) (q1 m c) (kvF m c) (wostg m c) = acc1 m c from rfl]
  rw [wp_bind]
  iapply (part12_run c (kvF m c) (wostg m c) _ _)
  isplitl [Hkv]; · iexact Hkv
  isplitl [Hwo]; · iexact Hwo
  iintro ⟨Hkv, Hwo⟩
  dsimp only
  rw [wp_bind]
  iapply (part13_run c (kvF m c) (wostg m c) (q2 m c) _ _ _)
  isplitl [Hkv]; · iexact Hkv
  isplitl [Hwo]; · iexact Hwo
  iintro ⟨Hkv, Hwo⟩
  dsimp only
  rw [wp_bind]
  iapply (part14_run c (kvF m c) (wostg m c) (q2 m c) _ _ _)
  isplitl [Hkv]; · iexact Hkv
  isplitl [Hwo]; · iexact Hwo
  iintro ⟨Hkv, Hwo⟩
  dsimp only
  rw [snd1 _ _ _ (q2 m c) (kvF m c) (wostg m c)]
  rw [snd_mask (kxW c)]
  rw [wp_bind]
  iapply (part15_run c (kvF m c) (wostg m c) (q2 m c) (maskW (kxW c)) _ _ _ _ _)
  isplitl [Hkv]; · iexact Hkv
  isplitl [Hwo]; · iexact Hwo
  iintro ⟨Hkv, Hwo⟩
  dsimp only
  rw [snd2 (q2 m c) (kvF m c) (wostg m c) (maskW (kxW c))]
  rw [wp_bind]
  iapply (part16_run c (kvF m c) (wostg m c) (q2 m c) (maskW (kxW c)) _ _)
  isplitl [Hkv]; · iexact Hkv
  isplitl [Hwo]; · iexact Hwo
  iintro ⟨Hkv, Hwo⟩
  dsimp only
  rw [snd4 (q2 m c) (kvF m c) (wostg m c) (maskW (kxW c))]
  rw [wp_bind]
  iapply (part17_run c (kvF m c) (wostg m c) (q2 m c) (maskW (kxW c)) _ _ _)
  isplitl [Hkv]; · iexact Hkv
  isplitl [Hwo]; · iexact Hwo
  iintro ⟨Hkv, Hwo⟩
  dsimp only
  rw [snd5 (q2 m c) (kvF m c) (wostg m c) (maskW (kxW c))]
  rw [wp_bind]
  iapply (part18_run c (kxW c) (q2 m c) (maskW (kxW c)) _ _ _ _ (kvF m c) (wostg m c) _)
  isplitl [Hkv]; · iexact Hkv
  isplitl [Hwo]; · iexact Hwo
  isplitl [Hout]; · iexact Hout
  iintro ⟨Hkv, Hwo, Hout⟩
  rw [snd7 (q2 m c) (kvF m c) (wostg m c) (maskW (kxW c)), show at7 (maskW (kxW c)) (q2 m c) (kvF m c) (wostg m c) = acc2 m c from rfl, out0_eq m c f]
  rw [wp_bind]
  iapply (part19_run m c K w46 w53 (kxW c) w83)
  isplitr; · iexact HI
  isplitr; · iexact HL
  isplitl [HO]; · iexact HO
  isplitl [Hcr0]; · iexact Hcr0
  isplitl [Har0]; · iexact Har0
  isplitl [Hcs0]; · iexact Hcs0
  isplitl [Has0]; · iexact Has0
  isplitl [Hrest]; · iexact Hrest
  isplitl [Hout]; · iexact Hout
  iintro ⟨HO, Har0, Has0, Hb0, Hout, Hsb, Hrest⟩
  rw [wp_bind]
  iapply (part20_run m c K w53 w80 w88)
  isplitr; · iexact HI
  isplitr; · iexact HL
  isplitl [Hb1]; · iexact Hb1
  isplitl [HO]; · iexact HO
  isplitl [Hts1]; · iexact Hts1
  isplitl [HRs1]; · iexact HRs1
  isplitl [Htr1]; · iexact Htr1
  isplitl [HP1]; · iexact HP1
  isplitl [Hcr1]; · iexact Hcr1
  isplitl [Has1]; · iexact Has1
  isplitl [Har1]; · iexact Har1
  isplitl [Hsb]; · iexact Hsb
  isplitl [Hrest]; · iexact Hrest
  isplitl [Hout]; · iexact Hout
  iintro ⟨HO, Has1, Har1, Hb1, Hout, Hsb, Hrest⟩
  rw [wp_bind]
  iapply (part21_run m c K w55 w85)
  isplitr; · iexact HI
  isplitr; · iexact HL
  isplitl [Hb2]; · iexact Hb2
  isplitl [HO]; · iexact HO
  isplitl [Hts2]; · iexact Hts2
  isplitl [HRs2]; · iexact HRs2
  isplitl [Htr2]; · iexact Htr2
  isplitl [HP2]; · iexact HP2
  isplitl [Hcr2]; · iexact Hcr2
  isplitl [Has2]; · iexact Has2
  isplitl [Har2]; · iexact Har2
  isplitl [Hsb]; · iexact Hsb
  isplitl [Hrest]; · iexact Hrest
  isplitl [Hout]; · iexact Hout
  iintro ⟨HO, Has2, Har2, Hb2, Hout, Hsb⟩
  rw [wp_bind]
  iapply (part22_run m c K w55 w80 w88)
  isplitr; · iexact HI
  isplitr; · iexact HL
  isplitl [Hb3]; · iexact Hb3
  isplitl [HO]; · iexact HO
  isplitl [Hts3]; · iexact Hts3
  isplitl [HRs3]; · iexact HRs3
  isplitl [Htr3]; · iexact Htr3
  isplitl [HP3]; · iexact HP3
  isplitl [Hcr3]; · iexact Hcr3
  isplitl [Has3]; · iexact Has3
  isplitl [Har3]; · iexact Har3
  isplitl [Hsb]; · iexact Hsb
  isplitl [Hout]; · iexact Hout
  iintro ⟨HO, Has3, Har3, Hb3, Hout, Hsb⟩
  rw [wp_bind]
  iapply (part23_run m c K w53 w83)
  isplitr; · iexact HI
  isplitr; · iexact HL
  isplitl [Hb4]; · iexact Hb4
  isplitl [HO]; · iexact HO
  isplitl [Hts4]; · iexact Hts4
  isplitl [HRs4]; · iexact HRs4
  isplitl [Htr4]; · iexact Htr4
  isplitl [HP4]; · iexact HP4
  isplitl [Hcr4]; · iexact Hcr4
  isplitl [Has4]; · iexact Has4
  isplitl [Har4]; · iexact Har4
  isplitl [Hsb]; · iexact Hsb
  isplitl [Hout]; · iexact Hout
  iintro ⟨HO, Has4, Har4, Hb4, Hout, Hsb⟩
  rw [wp_bind]
  iapply (part24_run m c K w46 (kxW c))
  isplitr; · iexact HI
  isplitr; · iexact HL
  isplitl [Hb5]; · iexact Hb5
  isplitl [HO]; · iexact HO
  isplitl [Hts5]; · iexact Hts5
  isplitl [HRs5]; · iexact HRs5
  isplitl [Htr5]; · iexact Htr5
  isplitl [HP5]; · iexact HP5
  isplitl [Hcr5]; · iexact Hcr5
  isplitl [Has5]; · iexact Has5
  isplitl [Har5]; · iexact Har5
  isplitl [Hsb]; · iexact Hsb
  isplitl [Hout]; · iexact Hout
  iintro ⟨HO, Has5, Har5, Hb5, Hout, Hsb⟩
  simp only [Prog.lift, Prog.bind_op, Prog.bind_ret, Prog.pure_eq_ret]
  iapply (wp_load 𝒱₀ (c : Thread nD τ) none Set.univ (m := outM) (Finset.subset_univ _)) $$ Hout; iintro Hout
  iapply (store_out c) $$ Hout; iintro Hout
  rw [wp_ret]
  iapply Hend
  isplitl [HO]; · iexact HO
  isplitl [Hab]; · iexact Hab
  isplitl [Hak0 Hak1 Has0 Has1 Has2 Has3 Has4 Has5 Har0 Har1 Har2 Har3 Har4 Har5]
  · isplitl [Hak0]; · iexact Hak0
    isplitl [Hak1]; · iexact Hak1
    isplitl [Has0]; · iexact Has0
    isplitl [Has1]; · iexact Has1
    isplitl [Has2]; · iexact Has2
    isplitl [Has3]; · iexact Has3
    isplitl [Has4]; · iexact Has4
    isplitl [Has5]; · iexact Has5
    isplitl [Har0]; · iexact Har0
    isplitl [Har1]; · iexact Har1
    isplitl [Har2]; · iexact Har2
    isplitl [Har3]; · iexact Har3
    isplitl [Har4]; · iexact Har4
    iexact Har5
  isplitl [Hout]; · iexact Hout
  isplitl [Hx]; · iexact Hx
  isplitl [Hwq]; · iexact Hwq
  isplitl [Hwo]; · iexact Hwo
  isplitl [Hk]; · iexact Hk
  isplitl [Hv]; · iexact Hv
  isplitl [Hkv]; · iexists _; iexact Hkv
  isplitl [Hsb]; · iexact Hsb
  iapply (rb_join c)
  isplitl [Hb0]; · iapply (got_any c rb0 _); iexact Hb0
  isplitl [Hb1]; · iapply (got_any c rb1 _); iexact Hb1
  isplitl [Hb2]; · iapply (got_any c rb2 _); iexact Hb2
  isplitl [Hb3]; · iapply (got_any c rb3 _); iexact Hb3
  isplitl [Hb4]; · iapply (got_any c rb4 _); iexact Hb4
  iapply (got_any c rb5 _); iexact Hb5

end Cert.KernelIdeal.Net

end
-- ==== Proof.Region.lean ====
/-
  The kernel's region of @main: the proof data of its one grid point, the body's obligation, and the region as a record of a
  kernel that talks across devices.
-/
module

public import proofs.«01_k».proof.Proof.Kern
public import Idealize.ShloMosaic.Lib.Rounds.Family
public import Idealize.ShloMosaic.Lib.Pipeline.ValueKit

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Opening and closing the fourteen cells -/

theorem all14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem fresh_all (c : Dev nD) : bigSep Finset.univ (fun k : Fin 14 => atPos ER ((c : Thread nD τ), osem k) 0 ∅ 0) = (freshAll c : sProp 𝕄) :=
  all14 _
theorem reached_all (c : Dev nD) : bigSep Finset.univ (fun k : Fin 14 => reached ER ((c : Thread nD τ), osem k) 0) = (reachedAll c : sProp 𝕄) :=
  all14 _
theorem done_all (c : Dev nD) : bigSep Finset.univ (fun k : Fin 14 => atPos ER ((c : Thread nD τ), osem k) (0 + 1) ∅ 0) = (doneAll c : sProp 𝕄) :=
  all14 _

/-- The counters at zero open the fourteen cells. -/
theorem open_all (K : GSem nD τ sig → ℕ) (c : Dev nD) :
    iprop(ghost m K c ∗ Pipeline.ownSems0 osem c) ⊢ (|={Set.univ}=> opened m K c : sProp 𝕄) := by
  unfold ghost opened
  iintro ⟨⟨#HI, Hbar, Hopen, Hr, Ht⟩, Hs⟩
  imod (Rounds.cells_open ER (netRd m) Finset.univ (fun k : Fin 14 => ((c : Thread nD τ), osem k)) (fun k => K ((c : Thread nD τ), osem k))
    (fun k _ => Set.mem_univ _)) $$ [Hopen Hs] with Hat
  · isplitl [Hopen]
    · iapply (bigSep_with_persistent (R := invs m K) (Φ := fun k : Fin 14 => openTok ER ((c : Thread nD τ), osem k))
        (Ψ := fun k : Fin 14 => iprop(cellInv ER (netRd m) (K ((c : Thread nD τ), osem k)) ((c : Thread nD τ), osem k) ∗ openTok ER ((c : Thread nD τ), osem k)))
        fun k _ => sep_mono_left (inv_at m K (dma_mem c k)))
      isplitr; · iexact HI
      iexact Hopen
    · unfold Pipeline.ownSems0; iexact Hs
  imodintro
  isplitr; · iexact HI
  isplitl [Hbar]; · iexact Hbar
  isplitl [Hat]; · iexact Hat
  isplitl [Hr] <;> iassumption

/-- Their rounds over, the cells give the counters back, at zero. -/
theorem close_all (K : GSem nD τ sig → ℕ) (c : Dev nD) :
    iprop(invs m K ∗ doneAll c) ⊢ (|={Set.univ}=> Pipeline.ownSems0 osem c : sProp 𝕄) := by
  rw [← done_all]
  iintro ⟨#HI, Hd⟩
  iapply (Rounds.cells_close ER (netRd m) Finset.univ (fun k : Fin 14 => ((c : Thread nD τ), osem k)) (fun k => K ((c : Thread nD τ), osem k))
    (fun k _ => Set.mem_univ _) (fun k _ h => h) (fun _ => 0 + 1) (fun k _ => duties_later m _))
  iapply (bigSep_with_persistent (R := invs m K) (Φ := fun k : Fin 14 => atPos ER ((c : Thread nD τ), osem k) (0 + 1) ∅ 0)
    (Ψ := fun k : Fin 14 => iprop(cellInv ER (netRd m) (K ((c : Thread nD τ), osem k)) ((c : Thread nD τ), osem k) ∗ atPos ER ((c : Thread nD τ), osem k) (0 + 1) ∅ 0))
    fun k _ => sep_mono_left (inv_at m K (dma_mem c k)))
  isplitr; · iexact HI
  iexact Hd

/-! ## The proof data -/

/-- The kernel's scratch buffers, at contents not chosen. -/
def scratch (c : Dev nD) : sProp 𝕄 :=
  iprop((∃ f : S2x1024x8x128.Idx → Elt F .f32, pt c cc0_scratch0 f) ∗ anySb c ∗ (∃ f : S1792x1024.Idx → Elt F .bf16, pt c cc0_scratch2 f))
/-- The keys and the values, which the kernel reads by its own copies. -/
def keyvals (c : Dev nD) : sProp 𝕄 := iprop(pt c main_arg2 (V m c main_arg2) ∗ pt c main_arg3 (V m c main_arg3))

/-- What enters the region's invariant, and what it gives back. -/
def X1 (c : Dev nD) : sProp 𝕄 := iprop((∃ K, opened m K c) ∗ credits c ∗ levAts L lv ∗ keyvals m c ∗ scratch c ∗ ∃ r, prngReg c r)
def Y1 (c : Dev nD) : sProp 𝕄 := iprop(semVal (barCell c) 0 ∗ keyvals m c ∗ Pipeline.ownSems0 osem c ∗ scratch c ∗ ∃ r, prngReg c r)

/-- The region's one point: owes `O₀` before, nothing after; leaves its inputs as staged, the result at `out6`. -/
def dat1 (c : Dev nD) : Dat τ (Elt F) Unit ℕ UU ℕ cfg0 c where
  A w := V m c (Pipeline.arrRef spec0 w)
  after w _ := match w with
    | ⟨0, _⟩ => xstg m c
    | ⟨1, _⟩ => wqstg m c
    | ⟨2, _⟩ => wostg m c
    | ⟨3, _⟩ => out6 m c
  Φ t := if t.val = 0 then X1 m c else Y1 m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat1 m

theorem val_zero : ((0 : Fin (cfg0.N + 1)).val = 0) := rfl
theorem val_first : ((t₀.castSucc : Fin (cfg0.N + 1)).val = 0) := rfl
theorem val_succ : ¬((t₀.succ : Fin (cfg0.N + 1)).val = 0) := Nat.succ_ne_zero _
theorem val_last : ¬((Fin.last cfg0.N).val = 0) := by rw [Fin.val_last, show cfg0.N = 1 from N_0]; decide
theorem owed_at (c : Dev nD) (t : Fin (cfg0.N + 1)) : (dat1 m c).owed t = if t.val = 0 then O₀ c else 0 := rfl
theorem inv_at_point (c : Dev nD) (t : Fin (cfg0.N + 1)) : (dat1 m c).Φ t = if t.val = 0 then X1 m c else Y1 m c := rfl
theorem owed_first (c : Dev nD) : (dat1 m c).owed t₀.castSucc = O₀ c := by rw [owed_at, if_pos val_first]
theorem owed_zero (c : Dev nD) : (dat1 m c).owed 0 = O₀ c := by rw [owed_at, if_pos val_zero]
theorem owed_succ (c : Dev nD) : (dat1 m c).owed t₀.succ = 0 := by rw [owed_at, if_neg val_succ]
theorem owed_last (c : Dev nD) : (dat1 m c).owed (Fin.last _) = 0 := by rw [owed_at, if_neg val_last]
theorem inv_first (c : Dev nD) : (dat1 m c).Φ t₀.castSucc = X1 m c := by rw [inv_at_point, if_pos val_first]
theorem inv_zero (c : Dev nD) : (dat1 m c).Φ 0 = X1 m c := by rw [inv_at_point, if_pos val_zero]
theorem inv_succ (c : Dev nD) : (dat1 m c).Φ t₀.succ = Y1 m c := by rw [inv_at_point, if_neg val_succ]
theorem inv_last (c : Dev nD) : (dat1 m c).Φ (Fin.last _) = Y1 m c := by rw [inv_at_point, if_neg val_last]

theorem owesAt_make {c : Dev nD} (t : Fin (cfg0.N + 1)) (O : CellTallies nD τ sig Unit) (h : (dat1 m c).owed t = O) :
    (ow c O : sProp 𝕄) ⊢ (dat1 m c).owesAt () t := by
  unfold Dat.owesAt Pipeline.owesWithin Dat.bound ow; rw [h]
  iintro ⟨%W, H⟩; iexists W; isplitr; · ipureintro; exact fun _ _ => Or.inl trivial
  iexact H
theorem owesAt_take {c : Dev nD} (t : Fin (cfg0.N + 1)) (O : CellTallies nD τ sig Unit) (h : (dat1 m c).owed t = O) :
    (dat1 m c).owesAt () t ⊢ (ow c O : sProp 𝕄) := by
  unfold Dat.owesAt Pipeline.owesWithin ow; rw [h]
  iintro ⟨%W, -, H⟩; iexists W; iexact H

/-- A whole staging buffer's contents, as the pipeline hands them over. -/
theorem owns_out (c : Dev nD) (b : Ref sig .tc) (X : b.ty.Contents (Elt F)) :
    (owns (c : Thread nD τ) (Memref.whole b) fullShare X : sProp 𝕄) ⊢ pt c b X := by
  unfold owns; simp only [Memref.view_whole, View.read_whole, View.set_whole]
  iintro ⟨%f, %h, H⟩; subst h; iexact H
theorem owns_in (c : Dev nD) (b : Ref sig .tc) (X : b.ty.Contents (Elt F)) :
    (pt c b X : sProp 𝕄) ⊢ owns (c : Thread nD τ) (Memref.whole b) fullShare X := by
  unfold owns; simp only [Memref.view_whole, View.read_whole, View.set_whole]
  iintro H; iexists X; isplitr; · ipureintro; rfl
  iexact H

/-! ## The body's obligation -/

def bodyPre (c : Dev nD) : sProp 𝕄 :=
  iprop((dat1 m c).Φ t₀.castSucc ∗ (dat1 m c).owesAt () t₀.castSucc
    ∗ (∃ d, owns (c : Thread nD τ) (Memref.whole cc0_stg0_0) fullShare ((dat1 m c).before (0 : Fin 4) t₀ d))
    ∗ (∃ d, owns (c : Thread nD τ) (Memref.whole cc0_stg1_0) fullShare ((dat1 m c).before (1 : Fin 4) t₀ d))
    ∗ (∃ d, owns (c : Thread nD τ) (Memref.whole cc0_stg2_0) fullShare ((dat1 m c).before (2 : Fin 4) t₀ d))
    ∗ (∃ d, owns (c : Thread nD τ) (Memref.whole cc0_stg3_0) fullShare ((dat1 m c).before (3 : Fin 4) t₀ d)))
def bodyPost (c : Dev nD) : sProp 𝕄 :=
  iprop((dat1 m c).Φ t₀.succ ∗ (dat1 m c).owesAt () t₀.succ
    ∗ owns (c : Thread nD τ) (Memref.whole cc0_stg0_0) fullShare ((dat1 m c).after (0 : Fin 4) t₀) ∗ owns (c : Thread nD τ) (Memref.whole cc0_stg1_0) fullShare ((dat1 m c).after (1 : Fin 4) t₀)
    ∗ owns (c : Thread nD τ) (Memref.whole cc0_stg2_0) fullShare ((dat1 m c).after (2 : Fin 4) t₀) ∗ owns (c : Thread nD τ) (Memref.whole cc0_stg3_0) fullShare ((dat1 m c).after (3 : Fin 4) t₀))

theorem before_x (c : Dev nD) (d) : (dat1 m c).before (0 : Fin 4) t₀ d = xstg m c := by
  unfold Dat.before; rw [if_pos (fetch0_0 t₀)]; rfl
theorem before_wq (c : Dev nD) (d) : (dat1 m c).before (1 : Fin 4) t₀ d = wqstg m c := by
  unfold Dat.before; rw [if_pos (fetch0_1 t₀)]; rfl
theorem before_wo (c : Dev nD) (d) : (dat1 m c).before (2 : Fin 4) t₀ d = wostg m c := by
  unfold Dat.before; rw [if_pos (fetch0_2 t₀)]; rfl

theorem after_x (c : Dev nD) (t) : (dat1 m c).after (0 : Fin 4) t = xstg m c := by dsimp only [dat1]
theorem after_wq (c : Dev nD) (t) : (dat1 m c).after (1 : Fin 4) t = wqstg m c := by dsimp only [dat1]
theorem after_wo (c : Dev nD) (t) : (dat1 m c).after (2 : Fin 4) t = wostg m c := by dsimp only [dat1]
theorem after_out (c : Dev nD) (t) : (dat1 m c).after (3 : Fin 4) t = out6 m c := by dsimp only [dat1]

theorem body_run (c : Dev nD) : (bodyPre m c : sProp 𝕄) ⊢ wp frame (wpE (defs₀ (F := F)) 𝒱₀ c none) Set.univ (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => bodyPost m c) := by
  unfold bodyPre bodyPost
  rw [inv_first, inv_succ, after_x, after_wq, after_wo, after_out]
  simp only [before_x, before_wq, before_wo]
  unfold X1 Y1 keyvals scratch opened
  iintro ⟨⟨⟨%K, #HI, Hab, Hat, Hr, Ht⟩, Hc, #HL, ⟨Hk, Hv⟩, ⟨Hkv, Hsb, Hrb⟩, Hprng⟩, HO, ⟨%d0, Hx⟩, ⟨%d1, Hwq⟩, ⟨%d2, Hwo⟩, ⟨%d3, Hout⟩⟩
  ihave HO := (owesAt_take m _ (O₀ c) (owed_first m c)) $$ HO
  ihave Hx := (owns_out c cc0_stg0_0 _) $$ Hx
  ihave Hwq := (owns_out c cc0_stg1_0 _) $$ Hwq
  ihave Hwo := (owns_out c cc0_stg2_0 _) $$ Hwo
  ihave Hout := (owns_out c cc0_stg3_0 _) $$ Hout
  ihave Hat := (Entails.of_eq (bigSep_sep' Finset.univ (fun k : Fin 14 => (atPos ER ((c : Thread nD τ), osem k) 0 ∅ 0 : sProp 𝕄)) (fun k => reached ER ((c : Thread nD τ), osem k) 0))) $$ Hat
  icases Hat with ⟨Hfr, Hre⟩
  ihave Hfr := (Entails.of_eq (fresh_all c)) $$ Hfr
  ihave Hre := (Entails.of_eq (reached_all c)) $$ Hre
  iapply (kernel_run m c K)
  isplitr; · iexact HI
  isplitr; · iexact HL
  isplitl [HO]; · iexact HO
  isplitl [Ht]; · iexact Ht
  isplitl [Hc]; · iexact Hc
  isplitl [Hr]; · iexact Hr
  isplitl [Hab]; · iexact Hab
  isplitl [Hfr]; · iexact Hfr
  isplitl [Hre]; · iexact Hre
  isplitl [Hout]; · iexists _; iexact Hout
  isplitl [Hx Hwq Hwo Hk Hv Hkv Hsb Hrb]
  · unfold bufs'
    isplitl [Hx]; · iexact Hx
    isplitl [Hwq]; · iexact Hwq
    isplitl [Hwo]; · iexact Hwo
    isplitl [Hk]; · iexact Hk
    isplitl [Hv]; · iexact Hv
    isplitl [Hkv]; · iexact Hkv
    isplitl [Hsb] <;> iassumption
  unfold bufs'
  iintro ⟨HO, Hab, Hd, Hout, Hx, Hwq, Hwo, Hk, Hv, Hkv, Hsb, Hrb⟩
  imod (close_all m K c) $$ [Hd] with Hs
  · isplitr; · iexact HI
    iexact Hd
  imod (close m (K (barCell c)) (barCell c)) $$ [Hab] with Hb
  · isplitr; · iapply (inv_at m K (bar_mem c)); iexact HI
    iexact Hab
  imodintro
  isplitl [Hb Hk Hv Hs Hkv Hsb Hrb Hprng]
  · isplitl [Hb]; · iexact Hb
    isplitl [Hk Hv]; · isplitl [Hk] <;> iassumption
    isplitl [Hs]; · iexact Hs
    isplitr [Hprng]
    · isplitl [Hkv]; · iexact Hkv
      isplitl [Hsb] <;> iassumption
    iexact Hprng
  isplitl [HO]; · iapply (owesAt_make m _ 0 (owed_succ m c)); iexact HO
  isplitl [Hx]; · iapply (owns_in c cc0_stg0_0 _); iexact Hx
  isplitl [Hwq]; · iapply (owns_in c cc0_stg1_0 _); iexact Hwq
  isplitl [Hwo]; · iapply (owns_in c cc0_stg2_0 _); iexact Hwo
  iapply (owns_in c cc0_stg3_0 _); iexact Hout

theorem body_obligation (c : Dev nD) : BodyObligation (dat1 m c) (defs₀ (F := F)) 𝒱₀ () Set.univ := fun t => by
  obtain rfl : t = t₀ := fin_N0 t
  rw [bigSep_W0, bigSep_W0]
  exact body_run m c

/-! ## The region -/

/-- The buffers that are no array of the region. -/
def restRefs : Finset (DevRef τ sig) := Pipeline.ucRefs τ sig \ Pipeline.arrRefs spec0
/-- Those of them the kernel addresses: the keys and the values. -/
def kvRefs : Finset (DevRef τ sig) := {Proc.devRef .tc main_arg2, Proc.devRef .tc main_arg3}

theorem kv_sub : kvRefs ⊆ restRefs := by decide

/-- The buffers' contents after the region: the result's array at `out6`. -/
def V2 (c : Dev nD) : Valuation τ sig (Elt F) := Function.update (V0 m c) (Proc.devRef .tc main_v2) (out6 m c)
theorem V2_out (c : Dev nD) : V2 m c (Proc.devRef .tc main_v2) = out6 m c := Function.update_self ..
theorem V2_of_ne (c : Dev nD) {b : DevRef τ sig} (h : b ≠ Proc.devRef .tc main_v2) : V2 m c b = V0 m c b := Function.update_of_ne h ..

theorem rest_ne {b : DevRef τ sig} (h : b ∈ restRefs) : b ≠ Proc.devRef .tc main_v2 := fun e => by
  subst e; revert h; decide

theorem held_kv (c : Dev nD) (W : Valuation τ sig (Elt F)) : (StableHlo.held (c : Thread nD τ) kvRefs W : sProp 𝕄)
    = iprop(pt c main_arg2 (W (Proc.devRef .tc main_arg2)) ∗ pt c main_arg3 (W (Proc.devRef .tc main_arg3))) := by
  unfold StableHlo.held
  rw [bigSep_eq_bigSepL_of_eq [Proc.devRef .tc main_arg2, Proc.devRef .tc main_arg3] (by decide) (by decide)]
  rfl

def Tk (c : Dev nD) : sProp 𝕄 := iprop((∃ K, ghost m K c) ∗ credits c)
def Xk (c : Dev nD) : sProp 𝕄 := iprop((∃ K, opened m K c) ∗ credits c ∗ levAts L lv)
def Yk (c : Dev nD) : sProp 𝕄 := semVal (barCell c) 0

theorem region_open (c : Dev nD) : iprop(Tk m c ∗ Pipeline.ownSems0 osem c ∗ levAts L lv) ⊢ (|={Set.univ}=> Xk m c : sProp 𝕄) := by
  unfold Tk Xk
  iintro ⟨⟨⟨%K, Hg⟩, Hc⟩, Hs, #HL⟩
  imod (open_all m K c) $$ [Hg Hs] with Ho
  · isplitl [Hg] <;> iassumption
  imodintro
  isplitl [Ho]; · iexists K; iexact Ho
  isplitl [Hc]; · iexact Hc
  iexact HL

theorem scratch_eq (c : Dev nD) : (Pipeline.scopedRest (Ix := Unit) (Name := ℕ) (U := UU) (Lvl := ℕ) (Val := Elt F) (Pipeline.pin (pcfgs (F := F)) adm 0).spec c : sProp 𝕄) = scratch c :=
  scopedRest0_eq c

theorem region_in (c : Dev nD) : iprop(Pipeline.scopedRest (Pipeline.pin (pcfgs (F := F)) adm 0).spec c ∗ (∃ r, prngReg c r) ∗ StableHlo.held (c.tc : Thread nD τ) kvRefs (V0 m c) ∗ Xk m c)
    ⊢ (pdats m 0 c).Φ 0 := by
  rw [show (pdats m 0 c).Φ 0 = X1 m c from inv_zero m c, scratch_eq, held_kv]
  unfold X1 Xk keyvals
  iintro ⟨Hs, Hp, Hkv, Ho, Hc, #HL⟩
  isplitl [Ho]; · iexact Ho
  isplitl [Hc]; · iexact Hc
  isplitr; · iexact HL
  isplitl [Hkv]; · iexact Hkv
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) kvRefs (V2 m c) ∗ Pipeline.ownSems0 osem c ∗ Yk c) := by
  rw [show (pdats m 0 c).Φ (Fin.last _) = Y1 m c from inv_last m c, scratch_eq, held_kv, V2_of_ne m c (by decide), V2_of_ne m c (by decide)]
  unfold Y1 Yk keyvals
  iintro ⟨Hb, Hkv, Hss, Hs, Hp⟩
  isplitl [Hs]; · iexact Hs
  isplitl [Hp]; · iexact Hp
  isplitl [Hkv]; · iexact Hkv
  isplitl [Hss] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin 4) : (dat1 m c).share w = fullShare := by unfold Dat.share; split <;> rfl

theorem levels (c : Dev nD) (t : Fin (cfg0.N + 1)) (g : GSem nD τ sig) (i : Unit) (h : 0 < (dat1 m c).owed t g i) : i ∈ L g ∧ (0 : ℕ) < lv g i := by
  have e : (dat1 m c).owed t = if t.val = 0 then O₀ c else 0 := rfl
  rw [e] at h
  split at h
  · exact above_O₀ c g i h
  · exact absurd h (Nat.lt_irrefl 0)

theorem entry_arr (c : Dev nD) (w : Fin 4) : (dat1 m c).arrAt w 0 = V0 m c (Proc.devRef .tc (Pipeline.arrRef spec0 w)) := rfl
theorem exit_out (c : Dev nD) : (dat1 m c).arrAt 3 cfg0.N = out6 m c := by
  refine (dat1 m c).arrAt_eq_of_after_last 3 t0_0 (by decide +kernel) _ fun j => ?_
  rw [after_out]
  refine (cast_eq _ _).trans ?_
  exact congrArg (out6 m c) (funext fun a => Fin.ext rfl)
theorem exit_arr (c : Dev nD) : ∀ w : Fin 4, (dat1 m c).arrAt w cfg0.N = V2 m c (Proc.devRef .tc (Pipeline.arrRef spec0 w)) := fun
  | 0 => ((dat1 m c).arrAt_in 0 rfl _).trans (V2_of_ne m c (b := Proc.devRef .tc main_v1) (by decide)).symm
  | 1 => ((dat1 m c).arrAt_in 1 rfl _).trans (V2_of_ne m c (b := Proc.devRef .tc main_arg1) (by decide)).symm
  | 2 => ((dat1 m c).arrAt_in 2 rfl _).trans (V2_of_ne m c (b := Proc.devRef .tc main_arg4) (by decide)).symm
  | 3 => (exit_out m c).trans (V2_out m c).symm

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    kvRefs restRefs kv_sub kit rfl (fun c => (body_obligation m c).loose)
    (fun _ => 0) O₀ (fun c => (owed_zero m c).trans (zero_add _).symm) (owed_last m) (fun _ => rfl) (share_full m)
    (V0 m) (V2 m) (fun c b hb => V2_of_ne m c (rest_ne (Finset.mem_sdiff.mp hb).1))
    (Tk m) Yk (Xk m) Yk (region_open m) (region_in m) (region_out m)
    (fun c => by iintro H; imodintro; iexact H)
    (fun _ => 0)
    ⟨fun c w s => by rw [L_tc]; exact Finset.mem_singleton_self _,
      fun c w s => by fin_cases w <;> exact Nat.le_refl 0, levels m⟩
    (fun _ => iprop(emp))
    (entry_arr m) (exit_arr m)

end Cert.KernelIdeal.Net

end
-- ==== Proof.Run.lean ====
/-
  The launch: every cell's invariant, the kernel's own cells dormant; the duty tokens dealt to the devices that pay; the
  credit read off what is owed; and the run of @main on the eight devices.
-/
module

public import proofs.«01_k».proof.Proof.Region

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program as segments -/

/-- The buffers as launched, and once @main is over. -/
abbrev Vi (c : Dev nD) : Valuation τ sig (Elt F) := fun b => m (c, b)
abbrev V3 (c : Dev nD) : Valuation τ sig (Elt F) := StableHlo.after hostOps1 (V2 m c)

/-- What rides beside the buffers before the region, and after it. -/
def R0 (c : Dev nD) : sProp 𝕄 := iprop(start m c ∗ ow c (O₀ c))
def R1 (c : Dev nD) : sProp 𝕄 := iprop(semVal (barCell c) 0 ∗ ow c 0)

def head : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) (List.forall_iff_forall_mem.mp hostOps0_fresh) (Vi m) (R0 m)
def tail : Pipeline.HostSeg (Name := ℕ) (U := UU) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) (List.forall_iff_forall_mem.mp hostOps1_fresh) (V2 m) R1

def segs : List (Pipeline.Seg (pcfgs (F := F)) adm (pdats m) () defs₀ 𝒱₀ L lv) :=
  [.host (head m), .region (region m), .host (tail m)]

theorem main_eq (c : Dev nD) : main (F := F) c = Pipeline.Seg.run (segs m) :=
  main_segs adm (pdats m) () 𝒱₀ L lv (head m) (tail m) (region m) rfl rfl c

theorem arr_sub : Pipeline.arrRefs spec0 ⊆ Pipeline.ucRefs τ sig := Pipeline.arrRefs_sub_ucRefs spec0 winFacts0.arr_unscoped

theorem region_pre (c : Dev nD) : iprop(StableHlo.held (c : Thread nD τ) (Pipeline.ucRefs τ sig) (V0 m c) ∗ R0 m c) ⊢ (region m).pre c := by
  show _ ⊢ iprop(StableHlo.held (c.tc : Thread nD τ) (Pipeline.arrRefs (τ := τ) spec0) (V0 m c) ∗ (∃ r, prngReg c r)
    ∗ (StableHlo.held (c.tc : Thread nD τ) restRefs (V0 m c) ∗ emp) ∗ Tk m c ∗ ∃ Wd, owes (c : Thread nD τ) (0 + O₀ c) Wd)
  rw [StableHlo.held_sub_split (c : Thread nD τ) arr_sub, zero_add]
  unfold R0 start Tk ow restRefs
  iintro ⟨⟨Ha, Hr⟩, ⟨HK, Hc, Hp⟩, HO⟩
  isplitl [Ha]; · iexact Ha
  isplitl [Hp]; · iexact Hp
  isplitl [Hr]
  · isplitl [Hr]; · iexact Hr
    iempintro
  isplitl [HK Hc]; · isplitl [HK] <;> iassumption
  iexact HO

theorem region_post (c : Dev nD) : (region m).post c ⊢ iprop(StableHlo.held (c : Thread nD τ) (Pipeline.ucRefs τ sig) (V2 m c) ∗ R1 c) := by
  show iprop(StableHlo.held (c.tc : Thread nD τ) (Pipeline.arrRefs (τ := τ) spec0) (V2 m c) ∗ (∃ r, prngReg c r)
    ∗ (StableHlo.held (c.tc : Thread nD τ) restRefs (V2 m c) ∗ emp) ∗ Yk c ∗ ∃ Wd, owes (c : Thread nD τ) (0 : CellTallies nD τ sig Unit) Wd) ⊢ _
  rw [StableHlo.held_sub_split (c : Thread nD τ) arr_sub]
  unfold Yk R1 ow restRefs
  iintro ⟨Ha, -, ⟨Hr, -⟩, Hb, HO⟩
  isplitl [Ha Hr]; · isplitl [Ha] <;> iassumption
  isplitl [Hb] <;> iassumption

/-! ## The launch's ghost state -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have h2 : osem ck.2 = SemLoc.reg barS := congrArg Prod.snd h
  unfold osem at h2; injection h2

/-- A device's seventeen duties: three on its barrier cell, one on each of its fourteen own cells. -/
abbrev tsem (k : Fin 17) : SemLoc sig := if h : k.val < 3 then .reg barS else osem ⟨k.val - 3, by have := k.isLt; omega⟩
abbrev tduty (k : Fin 17) : Fin 3 := if h : k.val < 3 then ⟨k.val, h⟩ else 0
theorem tok_inj : Function.Injective (fun k : Fin 17 => (tsem k, tduty k)) := by decide
def allToks : Finset (GSem nD τ sig × ℕ × Fin 3) :=
  Finset.univ.map ⟨fun ck : Dev nD × Fin 17 => (((ck.1 : Thread nD τ), tsem ck.2), 0, tduty ck.2), fun a b h => by
    have h1 : ((a.1 : Thread nD τ), tsem a.2) = ((b.1 : Thread nD τ), tsem b.2) := congrArg Prod.fst h
    have h2 : (a.1 : Thread nD τ) = (b.1 : Thread nD τ) := congrArg Prod.fst h1
    exact Prod.ext (by injection h2) (tok_inj (Prod.ext (congrArg Prod.snd h1) (congrArg (fun t : GSem nD τ sig × ℕ × Fin 3 => t.2.2) h)))⟩

def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's launch element is all kept on device 0 until the global step deals it. -/
def G (c : Dev nD) : sProp 𝕄 := if c = 0 then BI.own (ER (launchOf barCells scCells allToks)) else iprop(emp)
theorem G_all : bigSep Finset.univ (G (F := F)) = (BI.own (ER (launchOf barCells scCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The duties on a device's own cells. -/
def ownToks (c : Dev nD) : sProp 𝕄 := iprop(dutyTok ER (barCell c) 0 0 ∗ dutyTok ER (barCell c) 0 1 ∗ dutyTok ER (barCell c) 0 2 ∗ dutyTok ER (dCell kvS0 c) 0 0 ∗ dutyTok ER (dCell kvS1 c) 0 0 ∗ dutyTok ER (dCell snS0 c) 0 0 ∗ dutyTok ER (dCell snS1 c) 0 0 ∗ dutyTok ER (dCell snS2 c) 0 0 ∗ dutyTok ER (dCell snS3 c) 0 0 ∗ dutyTok ER (dCell snS4 c) 0 0 ∗ dutyTok ER (dCell snS5 c) 0 0 ∗ dutyTok ER (dCell rcS0 c) 0 0 ∗ dutyTok ER (dCell rcS1 c) 0 0 ∗ dutyTok ER (dCell rcS2 c) 0 0 ∗ dutyTok ER (dCell rcS3 c) 0 0 ∗ dutyTok ER (dCell rcS4 c) 0 0 ∗ dutyTok ER (dCell rcS5 c) 0 0)

theorem all17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem toks_eq : bigSep allToks (fun x => (dutyTok ER x.1 x.2.1 x.2.2 : sProp 𝕄)) = bigSep Finset.univ fun c : Dev nD => ownToks c := by
  unfold allToks; rw [bigSep_map, bigSep_univ_prod]
  exact bigSep_congr fun c _ => by rw [all17]; rfl

def xE : Dev nD ≃ Dev nD := ⟨xp, xp, xp_xp, xp_xp⟩
def yE : Dev nD ≃ Dev nD := ⟨yp, yp, yp_yp, yp_yp⟩
def zE : Dev nD ≃ Dev nD := ⟨zp, zp, zp_zp, zp_zp⟩

/-- Each token handed to the device that pays with it. -/
theorem toks_around : (bigSep Finset.univ fun c : Dev nD => (ownToks c : sProp 𝕄)) ⊢ bigSep Finset.univ fun c : Dev nD => tokens c := by
  unfold ownToks tokens
  simp only [bigSep_sep']
  rw [bigSep_univ_equiv xE (fun c : Dev nD => (dutyTok ER (barCell c) 0 0 : sProp 𝕄)),
    bigSep_univ_equiv yE (fun c : Dev nD => (dutyTok ER (barCell c) 0 1 : sProp 𝕄)),
    bigSep_univ_equiv zE (fun c : Dev nD => (dutyTok ER (barCell c) 0 2 : sProp 𝕄)),
    bigSep_univ_equiv xE (fun c : Dev nD => (dutyTok ER (dCell rcS0 c) 0 0 : sProp 𝕄)),
    bigSep_univ_equiv yE (fun c : Dev nD => (dutyTok ER (dCell rcS1 c) 0 0 : sProp 𝕄)),
    bigSep_univ_equiv zE (fun c : Dev nD => (dutyTok ER (dCell rcS2 c) 0 0 : sProp 𝕄)),
    bigSep_univ_equiv zE (fun c : Dev nD => (dutyTok ER (dCell rcS3 c) 0 0 : sProp 𝕄)),
    bigSep_univ_equiv yE (fun c : Dev nD => (dutyTok ER (dCell rcS4 c) 0 0 : sProp 𝕄)),
    bigSep_univ_equiv xE (fun c : Dev nD => (dutyTok ER (dCell rcS5 c) 0 0 : sProp 𝕄))]
  exact BI.Entails.refl _

/-! ## The credit -/

theorem sum_at (p : Dev nD → Dev nD) (hp : ∀ d, p (p d) = d) (sm sm' : SemLoc sig) (k : ℕ) (c : Dev nD) :
    ∑ d : Dev nD, tallyAt (((p d : Dev nD) : Thread nD τ), sm) () k ((c : Thread nD τ), sm') () = if sm' = sm then k else 0 := by
  by_cases hs : sm' = sm
  · subst hs
    rw [if_pos rfl]
    have h : ∀ d : Dev nD, tallyAt (((p d : Dev nD) : Thread nD τ), sm') () k ((c : Thread nD τ), sm') () = if d = p c then k else 0 := fun d => by
      by_cases hd : d = p c
      · rw [hd, hp, tallyAt_self, if_pos rfl]
      · rw [if_neg hd, tallyAt_ne_cell fun e => hd ?_]; · rfl
        have h2 : ((c : Dev nD) : Thread nD τ) = ((p d : Dev nD) : Thread nD τ) := congrArg Prod.fst e
        have h3 : c = p d := by injection h2
        rw [h3, hp]
    rw [Finset.sum_congr rfl fun d _ => h d, Finset.sum_ite_eq' Finset.univ (p c) fun _ => k, if_pos (Finset.mem_univ _)]
  · rw [if_neg hs]
    exact Finset.sum_eq_zero fun d _ => by rw [tallyAt_ne_cell fun e => hs (congrArg Prod.snd e)]; rfl

/-- What all devices owe to a cell, term by term. -/
theorem sum_owed (g : GSem nD τ sig) : ∑ d : Dev nD, O₀ d g () =
    (∑ d : Dev nD, tallyAt (dCell rcS5 (xp d)) () rb5.view.dmaCredit g ()) + (∑ d : Dev nD, tallyAt (dCell rcS4 (yp d)) () rb4.view.dmaCredit g ()) + (∑ d : Dev nD, tallyAt (dCell rcS3 (zp d)) () rb3.view.dmaCredit g ()) + (∑ d : Dev nD, tallyAt (dCell rcS2 (zp d)) () rb2.view.dmaCredit g ()) + (∑ d : Dev nD, tallyAt (dCell rcS1 (yp d)) () rb1.view.dmaCredit g ()) + (∑ d : Dev nD, tallyAt (dCell rcS0 (xp d)) () rb0.view.dmaCredit g ()) + (∑ d : Dev nD, tallyAt (barCell (zp d)) () 1 g ()) + (∑ d : Dev nD, tallyAt (barCell (yp d)) () 1 g ()) + (∑ d : Dev nD, tallyAt (barCell (xp d)) () 1 g ()) := by
  rw [← Finset.sum_add_distrib, ← Finset.sum_add_distrib, ← Finset.sum_add_distrib, ← Finset.sum_add_distrib, ← Finset.sum_add_distrib, ← Finset.sum_add_distrib, ← Finset.sum_add_distrib, ← Finset.sum_add_distrib]
  refine Finset.sum_congr rfl fun d _ => ?_
  show (((((((((0 : ℕ) + _) + _) + _) + _) + _) + _) + _) + _) + _ = _
  rw [Nat.zero_add]

theorem launch_cell (g : GSem nD τ sig) (k : ℕ) (h : ∑ d : Dev nD, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

/-- The same, for one cell of one device. -/
theorem owed_sem (sm : SemLoc sig) (c : Dev nD) : ∑ d : Dev nD, O₀ d ((c : Thread nD τ), sm) () =
    (if sm = (.dma rcS5) then rb5.view.dmaCredit else 0) + (if sm = (.dma rcS4) then rb4.view.dmaCredit else 0) + (if sm = (.dma rcS3) then rb3.view.dmaCredit else 0) + (if sm = (.dma rcS2) then rb2.view.dmaCredit else 0) + (if sm = (.dma rcS1) then rb1.view.dmaCredit else 0) + (if sm = (.dma rcS0) then rb0.view.dmaCredit else 0) + (if sm = (.reg barS) then 1 else 0) + (if sm = (.reg barS) then 1 else 0) + (if sm = (.reg barS) then 1 else 0) := by
  rw [sum_owed, sum_at xp xp_xp (.dma rcS5) sm rb5.view.dmaCredit c, sum_at yp yp_yp (.dma rcS4) sm rb4.view.dmaCredit c, sum_at zp zp_zp (.dma rcS3) sm rb3.view.dmaCredit c, sum_at zp zp_zp (.dma rcS2) sm rb2.view.dmaCredit c, sum_at yp yp_yp (.dma rcS1) sm rb1.view.dmaCredit c, sum_at xp xp_xp (.dma rcS0) sm rb0.view.dmaCredit c, sum_at zp zp_zp (.reg barS) sm 1 c, sum_at yp yp_yp (.reg barS) sm 1 c, sum_at xp xp_xp (.reg barS) sm 1 c]
theorem owed_bar (c : Dev nD) : ∑ d : Dev nD, O₀ d (barCell c) () = 3 := (owed_sem (.reg barS) c).trans rfl
theorem owed_rc0 (c : Dev nD) : ∑ d : Dev nD, O₀ d (dCell rcS0 c) () = rb0.view.dmaCredit := (owed_sem (.dma rcS0) c).trans (by simp)
theorem owed_rc1 (c : Dev nD) : ∑ d : Dev nD, O₀ d (dCell rcS1 c) () = rb1.view.dmaCredit := (owed_sem (.dma rcS1) c).trans (by simp)
theorem owed_rc2 (c : Dev nD) : ∑ d : Dev nD, O₀ d (dCell rcS2 c) () = rb2.view.dmaCredit := (owed_sem (.dma rcS2) c).trans (by simp)
theorem owed_rc3 (c : Dev nD) : ∑ d : Dev nD, O₀ d (dCell rcS3 c) () = rb3.view.dmaCredit := (owed_sem (.dma rcS3) c).trans (by simp)
theorem owed_rc4 (c : Dev nD) : ∑ d : Dev nD, O₀ d (dCell rcS4 c) () = rb4.view.dmaCredit := (owed_sem (.dma rcS4) c).trans (by simp)
theorem owed_rc5 (c : Dev nD) : ∑ d : Dev nD, O₀ d (dCell rcS5 c) () = rb5.view.dmaCredit := (owed_sem (.dma rcS5) c).trans (by simp)

theorem creds (c : Dev nD) : (Pipeline.launchCred O₀ c : sProp 𝕄) ⊢ credits c := by
  unfold Pipeline.launchCred credits
  rw [bigSep_univ_at _ (SemLoc.reg barS), launch_cell _ _ (owed_bar c)]
  refine sep_mono_right ?_
  rw [← launch_cell _ _ (owed_rc0 c), ← launch_cell _ _ (owed_rc1 c), ← launch_cell _ _ (owed_rc2 c), ← launch_cell _ _ (owed_rc3 c),
    ← launch_cell _ _ (owed_rc4 c), ← launch_cell _ _ (owed_rc5 c)]
  let Φ : SemLoc sig → sProp 𝕄 := fun sm => cred (tallyOn ((c : Thread nD τ), sm) (launchCredit (Pipeline.owing O₀) 0 ((c : Thread nD τ), sm)))
  show bigSep (Finset.univ.erase (SemLoc.reg barS)) Φ
    ⊢ bigSepL [SemLoc.dma rcS0, .dma rcS1, .dma rcS2, .dma rcS3, .dma rcS4, .dma rcS5] Φ
  rw [← bigSep_eq_bigSepL_of_eq (S := {SemLoc.dma rcS0, .dma rcS1, .dma rcS2, .dma rcS3, .dma rcS4, .dma rcS5}) _ (by decide) (by decide)]
  exact bigSep_subset (by decide)

/-! ## What a device takes into @main -/

/-- The invariants and the reached barrier rounds: shared by all. -/
def records (κ : GSem nD τ sig → ℕ) : sProp 𝕄 := iprop(invs m κ ∗ bigSep barCells fun g => reached ER g 0)
instance records_persistent (κ : GSem nD τ sig → ℕ) : BI.Persistent (records m κ) := by unfold records invs; infer_instance

theorem reached_at (c : Dev nD) : (bigSep barCells fun g => (reached ER g 0 : sProp 𝕄)) ⊢ reached ER (barCell c) 0 :=
  bigSep_elim (Finset.mem_map_of_mem barEmb (Finset.mem_univ c))

/-- A device's own part: its barrier position, its rights to open, the tokens of the duties it pays. -/
def linear (c : Dev nD) : sProp 𝕄 :=
  iprop(atPos ER (barCell c) 0 ∅ 0 ∗ bigSep Finset.univ (fun k : Fin 14 => openTok ER ((c : Thread nD τ), osem k)) ∗ tokens c)

theorem ghost_intro (κ : GSem nD τ sig → ℕ) (c : Dev nD) : iprop(records m κ ∗ linear c) ⊢ iprop(∃ K, ghost m K c) := by
  unfold records linear ghost
  iintro ⟨⟨#HI, #HR⟩, HaB, Ho, Ht⟩
  iexists κ
  isplitr; · iexact HI
  isplitl [HaB]; · iexact HaB
  isplitl [Ho]; · iexact Ho
  isplitr
  · isplitr; · iapply (reached_at (F := F) (xp c)); iexact HR
    isplitr; · iapply (reached_at (F := F) (yp c)); iexact HR
    iapply (reached_at (F := F) (zp c)); iexact HR
  iexact Ht

abbrev T₀ (c : Dev nD) : sProp 𝕄 := iprop(StableHlo.held (c : Thread nD τ) (Pipeline.ucRefs τ sig) (Vi m c) ∗ R0 m c)
abbrev Tₙ (c : Dev nD) : sProp 𝕄 := iprop(StableHlo.held (c : Thread nD τ) (Pipeline.ucRefs τ sig) (V3 m c) ∗ semVal (barCell c) 0)

/-- A device's launch holdings beside the protocol's ghost state. -/
def bundle (c : Dev nD) : sProp 𝕄 :=
  iprop(StableHlo.held (c : Thread nD τ) (Pipeline.ucRefs τ sig) (Vi m c) ∗ credits c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R0 start ow
  iintro ⟨#HR, Hl, Hh, Hc, HO, Hp⟩
  isplitl [Hh]; · iexact Hh
  isplitr [HO]
  · isplitl [Hl]
    · iapply (ghost_intro m κ c)
      isplitr; · iexact HR
      iexact Hl
    isplitl [Hc] <;> iassumption
  · iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- One device's launch holdings, sorted. -/
theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (Vi m c) from
    Pipeline.unscopedBufs_held c (Vi m c), unscopedSems0_eq]
  unfold bundle
  iintro ⟨Hh, Hus, HO, Hcr, Hp, HG⟩
  isplitl [Hh HO Hcr Hp]
  · isplitl [Hh]; · iexact Hh
    isplitl [Hcr]; · iapply (creds (F := F) c); iexact Hcr
    isplitl [HO]; · iexact HO
    iexists (ρ c); iexact Hp
  isplitl [Hus] <;> iassumption

theorem over_bar (Φ : GSem nD τ sig → sProp 𝕄) : bigSep barCells Φ = bigSep Finset.univ fun c : Dev nD => Φ (barCell c) :=
  bigSep_map (s := Finset.univ) barEmb (Φ := Φ)
theorem over_own (Φ : GSem nD τ sig → sProp 𝕄) :
    bigSep scCells Φ = bigSep Finset.univ fun c : Dev nD => bigSep Finset.univ fun k : Fin 14 => Φ ((c : Thread nD τ), osem k) := by
  unfold scCells; rw [bigSep_map, bigSep_univ_prod]; rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from
    bigSep_mono fun c _ => core_init m ρ c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (Entails.of_eq (G_all (F := F))) $$ HG
  imod (Rounds.fund_launch ER (netRd m) disjoint_cells (fun g _ h => h) allToks) $$ [Hv Hu] with ⟨%κ, -, #Hinv, #Hr, Hat, Hopen, Htok⟩
  · isplitl [Hv]
    · iapply (Entails.of_eq (over_bar (F := F) fun g => semVal g 0).symm); iexact Hv
    · iexact Hu
  imodintro
  iapply (bigSep_with_persistent (R := records m κ) (Φ := fun c => iprop(linear c ∗ bundle m c)) fun c _ => T₀_intro m κ c)
  isplitr
  · unfold records invs
    isplitr; · iexact Hinv
    iexact Hr
  iapply (Entails.of_eq (bigSep_sep' ..).symm)
  isplitr [HB]
  · unfold linear
    iapply (Entails.of_eq (bigSep_sep' ..).symm); isplitl [Hat]; · iapply (Entails.of_eq (over_bar (F := F) fun g => atPos ER g 0 ∅ 0)); iexact Hat
    iapply (Entails.of_eq (bigSep_sep' ..).symm); isplitl [Hopen]; · iapply (Entails.of_eq (over_own (F := F) fun g => openTok ER g)); iexact Hopen
    iapply (toks_around (F := F))
    iapply (Entails.of_eq (toks_eq (F := F))); iexact Htok
  · iexact HB

/-! ## The run -/

theorem unscoped_eq : ∀ sm : SemLoc sig, sm.isScoped .tc = false → sm = .reg barS := by decide

theorem all_bufs (c : Dev nD) (V : Valuation τ sig (Elt F)) : (StableHlo.held (c : Thread nD τ) (Pipeline.ucRefs τ sig) V : sProp 𝕄)
    = iprop(pt c main_arg0 (V (Proc.devRef .tc main_arg0))
        ∗ pt c main_arg1 (V (Proc.devRef .tc main_arg1))
        ∗ pt c main_arg2 (V (Proc.devRef .tc main_arg2))
        ∗ pt c main_arg3 (V (Proc.devRef .tc main_arg3))
        ∗ pt c main_arg4 (V (Proc.devRef .tc main_arg4))
        ∗ pt c main_v1 (V (Proc.devRef .tc main_v1))
        ∗ pt c main_v2 (V (Proc.devRef .tc main_v2))
        ∗ pt c main_v3 (V (Proc.devRef .tc main_v3))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v1, Proc.devRef .tc main_v2, Proc.devRef .tc main_v3] (by decide) (by decide)]
  rfl

theorem final_of_ne (c : Dev nD) (b : Ref sig .tc) (h : Proc.devRef .tc b ≠ (Proc.devRef .tc main_v3 : DevRef τ sig))
    (h2 : Proc.devRef .tc b ≠ (Proc.devRef .tc main_v2 : DevRef τ sig)) : V3 m c (Proc.devRef .tc b) = V0 m c (Proc.devRef .tc b) := by
  rw [show V3 m c (Proc.devRef .tc b) = V2 m c (Proc.devRef .tc b) from
    StableHlo.after_of_forall_not_mem _ _ fun op hop => by
      rw [List.mem_singleton.mp hop]; exact fun hm => h (Finset.mem_singleton.mp hm)]
  exact V2_of_ne m c h2

/-- A device's result. -/
def result (c : Dev nD) : Buf (Elt F) (((c : Dev nD), Proc.devRef .tc main_v3) : Loc nD τ sig) := V3 m c (Proc.devRef .tc main_v3)

set_option backward.isDefEq.respectTransparency.types false in
/-- From any memory with zero counters, every weakly fair execution of @main on the eight devices terminates, the arguments
    unchanged, each device's result buffer at `result`, and every semaphore counter of the machine at zero. -/
theorem run_main : θ_run defs (onTc (τ := τ) (main (F := F))) ⟨m, fun _ => 0, ρ⟩
    (fun r => (∀ c : Dev nD, r.2.mem ((c : Thread nD τ).loc main_v3) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => region_pre m c, fun c => region_post m c, fun c => ?_⟩
      show iprop(StableHlo.held (c : Thread nD τ) (Pipeline.ucRefs τ sig) (V3 m c) ∗ R1 c)
        ⊢ iprop(Tₙ m c ∗ ∃ W, owes (c : Thread nD τ) (0 : CellTallies nD τ sig Unit) W)
      unfold R1 ow
      iintro ⟨Hh, Hb0, HO⟩
      isplitr [HO]
      · isplitl [Hh] <;> iassumption
      · iexact HO)
    (hinit := init m ρ)
    (QY := fun c s => (s.mem ((c : Thread nD τ).loc main_v3) = V3 m c (Proc.devRef .tc main_v3)
        ∧ s.mem ((c : Thread nD τ).loc main_arg0) = V3 m c (Proc.devRef .tc main_arg0)
        ∧ s.mem ((c : Thread nD τ).loc main_arg1) = V3 m c (Proc.devRef .tc main_arg1)
        ∧ s.mem ((c : Thread nD τ).loc main_arg2) = V3 m c (Proc.devRef .tc main_arg2)
        ∧ s.mem ((c : Thread nD τ).loc main_arg3) = V3 m c (Proc.devRef .tc main_arg3)
        ∧ s.mem ((c : Thread nD τ).loc main_arg4) = V3 m c (Proc.devRef .tc main_arg4)) ∧ s.sem (barCell c) = 0)
    (hfin := fun c s' => by
      dsimp only [Tₙ]; rw [all_bufs]
      iintro ⟨⟨⟨H0, H1, H2, H3, H4, -, -, H7⟩, Hb0⟩, HSI⟩
      icombine HSI H0 gives %h0
      icombine HSI H1 gives %h1
      icombine HSI H2 gives %h2
      icombine HSI H3 gives %h3
      icombine HSI H4 gives %h4
      icombine HSI H7 gives %h7
      icombine HSI Hb0 gives %hb
      imodintro
      isplitr
      · ipureintro
        exact ⟨⟨Buf.eq_of_forall_mem_univ h7, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨hv, h0, h1, h2, h3, h4⟩, -⟩ := h c
        rw [final_of_ne m c _ (by decide) (by decide)] at h0 h1 h2 h3 h4
        exact ⟨hv, h0.trans (V_main_arg0 m c), h1.trans (V_main_arg1 m c), h2.trans (V_main_arg2 m c), h3.trans (V_main_arg3 m c),
          h4.trans (V_main_arg4 m c)⟩,
      sem_eq_zero hs fun c sm hsm => by
        obtain rfl := unscoped_eq sm hsm
        exact (h c).2⟩)

end Cert.KernelIdeal.Net

end
-- ==== Proof.Frames.lean ====
/-
  The three programs run, leave their arguments as they were, and end with every semaphore counter at zero: the kernel's two
  printings by the launch (Run.lean), the reference because it is a list of host operations and declares no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Bits.Run
public import Idealize.ShloMosaic.Lib.Quiescent

@[expose] public section

noncomputable section

namespace Cert.Proof

open Idealize.ShloMosaic Idealize.SL.Sem

theorem frame_kernel : Cert.quiescent_Kernel := fun m g _ =>
  (θ_run _ _ _).mono (fun _ h => ⟨fun c => (h.1 c).2, h.2⟩) (Cert.Kernel.Net.run_main (F := Bits) m g)

theorem frame_ideal : Cert.quiescent_KernelIdeal := fun m g _ =>
  (θ_run _ _ _).mono (fun _ h => ⟨fun c => (h.1 c).2, h.2⟩) (Cert.KernelIdeal.Net.run_main (F := Ideal) m g)

theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

end Cert.Proof

end
-- ==== Proof.Math.lean ====
module

public import Idealize.ShloMosaic.Lib.IdealHost
public import Mathlib.Algebra.BigOperators.Fin
public import Mathlib.Data.EReal.Operations
public import Mathlib.Analysis.SpecialFunctions.Exp

@[expose] public section

/-!
# The mathematics of the two programs

Masked multi-head attention over extended reals, once as the devices compute it (the scale folded
into the query weights, the softmax normalised once after the value product and without subtracting
a maximum, eight heads to a device and the devices' partial products added) and once as the
reference computes it (scale on the scores, maximum subtracted, weights normalised before the value
product). The two are one function when the operands that enter the scores are finite.
-/

namespace Cert.Attn

open Idealize.ShloMosaic
open scoped BigOperators

noncomputable section

/-- An extended real that is a real number. -/
def IsReal (x : EReal) : Prop := ∃ r : ℝ, x = (r : EReal)

/-- A sum of reals, taken among the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a t ha ih => rw [Finset.sum_insert ha, Finset.sum_insert ha, ih, EReal.coe_add]

/-- A real factor that is not negative distributes over any sum. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a t ha ih =>
      rw [Finset.sum_insert ha, Finset.sum_insert ha, ← ih]
      exact EReal.right_distrib_of_nonneg_of_ne_top (EReal.coe_nonneg.mpr hc) (EReal.coe_ne_top c) _ _

/-- The quotient of two reals, the divisor positive, is the real quotient. -/
theorem div_coe (a : ℝ) {b : ℝ} (hb : 0 < b) : Ideal.div (a : EReal) (b : EReal) = ((a * b⁻¹ : ℝ) : EReal) := by
  unfold Ideal.div
  rw [if_neg (by exact_mod_cast hb.ne'), EReal.coe_mul, EReal.coe_inv]

/-- The exponential of a real is the real exponential. -/
theorem exp_coe (a : ℝ) : Ideal.exp (a : EReal) = ((Real.exp a : ℝ) : EReal) := rfl

/-- Normalising after the value product, with no maximum subtracted, is normalising before it with
any real subtracted from the scores. -/
theorem softmax_eq {ι : Type} [Fintype ι] [Nonempty ι] (s : ι → EReal) (hs : ∀ j, IsReal (s j)) (μ : EReal)
    (hμ : IsReal μ) (v : ι → EReal) :
    (∑ j, Ideal.exp (s j) * v j) * Ideal.div 1 (∑ j, Ideal.exp (s j))
      = ∑ j, v j * Ideal.div (Ideal.exp (s j - μ)) (∑ j, Ideal.exp (s j - μ)) := by
  choose r hr using hs
  obtain ⟨m, rfl⟩ := hμ
  have e1 : ∀ j, Ideal.exp (s j) = ((Real.exp (r j) : ℝ) : EReal) := fun j => by rw [hr, exp_coe]
  have e2 : ∀ j, Ideal.exp (s j - (m : EReal)) = ((Real.exp (r j - m) : ℝ) : EReal) := fun j => by
    rw [hr, ← EReal.coe_sub, exp_coe]
  simp only [e1, e2, coe_sum]
  have p1 : 0 < ∑ j, Real.exp (r j) := Finset.sum_pos (fun j _ => Real.exp_pos _) Finset.univ_nonempty
  have p2 : 0 < ∑ j, Real.exp (r j - m) := Finset.sum_pos (fun j _ => Real.exp_pos _) Finset.univ_nonempty
  rw [show (1 : EReal) = ((1 : ℝ) : EReal) from rfl, div_coe 1 p1, one_mul,
    sum_mul_coe _ _ (inv_nonneg.mpr p1.le)]
  refine Finset.sum_congr rfl fun j _ => ?_
  rw [div_coe _ p2, mul_comm (_ : EReal) (v j), mul_assoc, ← EReal.coe_mul]
  congr 2
  have h : ∑ j, Real.exp (r j - m) = (∑ j, Real.exp (r j)) * (Real.exp m)⁻¹ := by
    rw [Finset.sum_mul]
    exact Finset.sum_congr rfl fun j _ => by rw [Real.exp_sub, div_eq_mul_inv]
  rw [h, Real.exp_sub]
  have := (Real.exp_pos m).ne'
  field_simp

/-- A score with the scale folded into the weights is the scaled score, and it is real. -/
theorem score_eq {ι κ : Type} [Fintype ι] [Fintype κ] (x : κ → EReal) (w : κ → ι → EReal) (y : ι → EReal)
    (sc : EReal) (hx : ∀ k, IsReal (x k)) (hw : ∀ k d, IsReal (w k d)) (hy : ∀ d, IsReal (y d)) (hsc : IsReal sc) :
    (∑ d, (∑ k, x k * (w k d * sc)) * y d) = (∑ d, (∑ k, x k * w k d) * y d) * sc
      ∧ IsReal ((∑ d, (∑ k, x k * w k d) * y d) * sc) := by
  choose xr hx using hx
  choose wr hw using hw
  choose yr hy using hy
  obtain ⟨c, rfl⟩ := hsc
  simp only [hx, hw, hy, ← EReal.coe_mul, coe_sum]
  refine ⟨?_, _, rfl⟩
  congr 1
  rw [Finset.sum_mul]
  refine Finset.sum_congr rfl fun d _ => ?_
  rw [Finset.sum_mul, Finset.sum_mul, Finset.sum_mul]
  exact Finset.sum_congr rfl fun k _ => by ring

/-- Which keys a row attends to: its own block of 64, the first block, and the blocks whose number
with its own makes a multiple of three. -/
def keep (i j : Fin 1024) : Prop :=
  i.val / 64 = j.val / 64 ∨ j.val / 64 = 0 ∨ (i.val / 64 + j.val / 64) % 3 = 0

instance (i j : Fin 1024) : Decidable (keep i j) := by unfold keep; infer_instance

/-- The column a head and a lane name among the 8192. -/
def col (h : Fin 64) (d : Fin 128) : Fin 8192 := ⟨128 * h.val + d.val, by omega⟩

/-- The head number of a device's local head. -/
def head (c : Fin 8) (h : Fin 8) : Fin 64 := ⟨8 * c.val + h.val, by omega⟩

section

variable (sc neg : EReal) (X : Fin 1024 → Fin 1024 → EReal) (W : Fin 1024 → Fin 8192 → EReal)
  (K V : Fin 1024 → Fin 64 → Fin 128 → EReal) (O : Fin 8192 → Fin 1024 → EReal)

/-- A score on a device: the scale sits inside the query. -/
def scoreD (h : Fin 64) (i j : Fin 1024) : EReal :=
  if keep i j then ∑ d, (∑ k, X i k * (W k (col h d) * sc)) * K j h d else neg

/-- A context entry on a device: normalised after the value product. -/
def ctxD (h : Fin 64) (i : Fin 1024) (d : Fin 128) : EReal :=
  (∑ j, Ideal.exp (scoreD sc neg X W K h i j) * V j h d)
    * Ideal.div 1 (∑ j, Ideal.exp (scoreD sc neg X W K h i j))

/-- A device's partial product: its eight heads. -/
def partD (c : Fin 8) (i n : Fin 1024) : EReal :=
  ∑ h, ∑ d, ctxD sc neg X W K V (head c h) i d * O (col (head c h) d) n

/-- A score of the reference. -/
def scoreR (h : Fin 64) (i j : Fin 1024) : EReal :=
  if keep i j then (∑ d, (∑ k, X i k * W k (col h d)) * K j h d) * sc else neg

/-- A context entry of the reference, with `μ` the row's maximum. -/
def ctxR (μ : EReal) (h : Fin 64) (i : Fin 1024) (d : Fin 128) : EReal :=
  ∑ j, V j h d * Ideal.div (Ideal.exp (scoreR sc neg X W K h i j - μ))
    (∑ j, Ideal.exp (scoreR sc neg X W K h i j - μ))

/-- The reference's result. -/
def outR (μ : Fin 64 → Fin 1024 → EReal) (i n : Fin 1024) : EReal :=
  ∑ e : Fin 8192, ctxR sc neg X W K V (μ ⟨e.val / 128, by omega⟩ i) ⟨e.val / 128, by omega⟩ i
    ⟨e.val % 128, by omega⟩ * O e n

end

section

variable {sc neg : EReal} {X : Fin 1024 → Fin 1024 → EReal} {W : Fin 1024 → Fin 8192 → EReal}
  {K V : Fin 1024 → Fin 64 → Fin 128 → EReal} {O : Fin 8192 → Fin 1024 → EReal}

/-- The two programs' scores agree and are real. -/
theorem scoreD_eq (hsc : IsReal sc) (hneg : IsReal neg) (hX : ∀ i k, IsReal (X i k))
    (hW : ∀ k e, IsReal (W k e)) (hK : ∀ j h d, IsReal (K j h d)) (h : Fin 64) (i j : Fin 1024) :
    scoreD sc neg X W K h i j = scoreR sc neg X W K h i j ∧ IsReal (scoreR sc neg X W K h i j) := by
  have key := score_eq (fun k => X i k) (fun k d => W k (col h d)) (fun d => K j h d) sc
    (hX i) (fun k d => hW k _) (hK j h) hsc
  unfold scoreD scoreR
  split
  · exact key
  · exact ⟨rfl, hneg⟩

/-- The two programs' contexts agree, whatever real the reference subtracts. -/
theorem ctxD_eq (hsc : IsReal sc) (hneg : IsReal neg) (hX : ∀ i k, IsReal (X i k))
    (hW : ∀ k e, IsReal (W k e)) (hK : ∀ j h d, IsReal (K j h d)) (μ : EReal) (hμ : IsReal μ)
    (h : Fin 64) (i : Fin 1024) (d : Fin 128) :
    ctxD sc neg X W K V h i d = ctxR sc neg X W K V μ h i d := by
  unfold ctxD ctxR
  simp only [fun j => (scoreD_eq hsc hneg hX hW hK h i j).1]
  exact softmax_eq _ (fun j => (scoreD_eq hsc hneg hX hW hK h i j).2) μ hμ _

/-- A sum over the 8192 columns is the sum over the devices, their heads and the lanes. -/
theorem sum_columns (f : Fin 8192 → EReal) :
    ∑ e, f e = ∑ c : Fin 8, ∑ h : Fin 8, ∑ d : Fin 128, f (col (head c h) d) := by
  rw [← (finProdFinEquiv (m := 64) (n := 128)).sum_comp, Fintype.sum_prod_type,
    ← (finProdFinEquiv (m := 8) (n := 8)).sum_comp, Fintype.sum_prod_type]
  refine Finset.sum_congr rfl fun c _ => Finset.sum_congr rfl fun h _ => Finset.sum_congr rfl fun d _ => ?_
  congr 1
  apply Fin.ext
  simp [col, head, finProdFinEquiv]
  omega

/-- The devices' partial products add to the reference's result. -/
theorem sum_partD (hsc : IsReal sc) (hneg : IsReal neg) (hX : ∀ i k, IsReal (X i k))
    (hW : ∀ k e, IsReal (W k e)) (hK : ∀ j h d, IsReal (K j h d)) (μ : Fin 64 → Fin 1024 → EReal)
    (hμ : ∀ h i, IsReal (μ h i)) (i n : Fin 1024) :
    ∑ c, partD sc neg X W K V O c i n = outR sc neg X W K V O μ i n := by
  unfold outR partD
  rw [sum_columns]
  refine Finset.sum_congr rfl fun c _ => Finset.sum_congr rfl fun h _ => Finset.sum_congr rfl fun d _ => ?_
  have e1 : ∀ p : (col (head c h) d).val / 128 < 64,
      (⟨(col (head c h) d).val / 128, p⟩ : Fin 64) = head c h :=
    fun _ => Fin.ext (by simp only [col, head]; omega)
  have e2 : ∀ p : (col (head c h) d).val % 128 < 128,
      (⟨(col (head c h) d).val % 128, p⟩ : Fin 128) = d :=
    fun _ => Fin.ext (by simp only [col, head]; omega)
  rw [e1, e2, ctxD_eq hsc hneg hX hW hK _ (hμ _ _)]

end

end

end Cert.Attn
-- ==== Proof.HeadValue.lean ====
module

public import proofs.«01_k».proof.Proof.Values
public import proofs.«01_k».proof.Proof.Math
public import Idealize.ShloMosaic.Lib.Pointwise
public import Idealize.ShloMosaic.Lib.Claim
public import Idealize.ShloMosaic.Lib.Pipeline.ValueKit.Geometry

@[expose] public section

/-!
# A device's own contribution, entry by entry

One head's step at an index, then the eight heads by the same step; the mask of 512 rows from
their first row; the queries; and the contribution as `Cert.Attn.partD` of the arrays the device's
blocks are cut from.
-/

noncomputable section

namespace Cert.KernelIdeal.Net

open Cert.KernelIdeal Cert.KernelIdeal.Gen Idealize.ShloMosaic Idealize.ShloMosaic.TcCoe
open scoped BigOperators

/-- The scale both programs use. -/
abbrev scale : EReal := Ideal.ofBits .f32 0x3DB504F3#32

/-- The score both programs give a masked pair. -/
abbrev masked : EReal := Ideal.ofBits .f32 0xCE6E6B28#32

/-- One head's step at an index: what it adds to what stood there. -/
theorem hd_apply (mk : IVec S512x1024 1) (qh : FVec Ideal S512x128 .f32) (k v : Vec Ideal S1x1024x1x128 .f32)
    (wo : Vec Ideal S128x1024 .f32) (acc : FVec Ideal S512x1024 .f32) (r : Fin 512) (n : Fin 1024) :
    hd mk qh k v wo acc (ix2 r n)
      = acc (ix2 r n) + ∑ d : Fin 128,
          ((∑ j : Fin 1024, Ideal.exp (Scalar.select (mk (ix2 r j)) (∑ d : Fin 128, qh (ix2 r d) * k (ix4 0 j 0 d)) masked)
              * v (ix4 0 j 0 d))
            * Ideal.div 1 (∑ j : Fin 1024,
                Ideal.exp (Scalar.select (mk (ix2 r j)) (∑ d : Fin 128, qh (ix2 r d) * k (ix4 0 j 0 d)) masked)))
          * wo (ix2 d n) := by
  pointwise [hd, hctx, hw]

/-- What local head `h` adds to row `r`, column `n`. -/
def term (mk : IVec S512x1024 1) (q : FVec Ideal S512x1024 .f32) (kv : S2x1024x8x128.Idx → EReal)
    (wo : S1024x1024.Idx → EReal) (h : Fin 8) (r : Fin 512) (n : Fin 1024) : EReal :=
  ∑ d : Fin 128,
    ((∑ j : Fin 1024, Ideal.exp (Scalar.select (mk (ix2 r j))
          (∑ d : Fin 128, q (ix2 r ⟨128 * h.val + d.val, by omega⟩) * kv (ix4 0 j h d)) masked) * kv (ix4 1 j h d))
      * Ideal.div 1 (∑ j : Fin 1024, Ideal.exp (Scalar.select (mk (ix2 r j))
          (∑ d : Fin 128, q (ix2 r ⟨128 * h.val + d.val, by omega⟩) * kv (ix4 0 j h d)) masked)))
    * wo (ix2 ⟨128 * h.val + d.val, by omega⟩ n)

/-- A head's step over operands cut at the head is the head's term added. -/
theorem hd_term (mk : IVec S512x1024 1) (q : FVec Ideal S512x1024 .f32) (kv : S2x1024x8x128.Idx → EReal)
    (wo : S1024x1024.Idx → EReal) (h : Fin 8) (qh : FVec Ideal S512x128 .f32) (k v : Vec Ideal S1x1024x1x128 .f32)
    (w : Vec Ideal S128x1024 .f32) (acc : FVec Ideal S512x1024 .f32) (r : Fin 512) (n : Fin 1024)
    (hq : ∀ d : Fin 128, qh (ix2 r d) = q (ix2 r ⟨128 * h.val + d.val, by omega⟩))
    (hk : ∀ j d, k (ix4 0 j 0 d) = kv (ix4 0 j h d)) (hv : ∀ j d, v (ix4 0 j 0 d) = kv (ix4 1 j h d))
    (hw : ∀ d : Fin 128, w (ix2 d n) = wo (ix2 ⟨128 * h.val + d.val, by omega⟩ n)) :
    hd mk qh k v w acc (ix2 r n) = acc (ix2 r n) + term mk q kv wo h r n := by
  rw [hd_apply]
  simp only [hq, hk, hv, hw]
  rfl

/-- Where a load of one head lands in the key/value scratch. -/
theorem kv_idx (f : S2x1024x8x128.Idx → EReal) {a h : Nat} (ha : a < 2) (hh : h < 8)
    (inb : ∀ i, (![a, 0, h, 0] : Fin 4 → Nat) i + S1x1024x1x128.size i ≤ S2x1024x8x128.size i) (j : Fin 1024) (d : Fin 128) :
    f ((Rect.unit (s := S2x1024x8x128) ![a, 0, h, 0] S1x1024x1x128.size inb).toLoadRect.idx (ix4 0 j 0 d))
      = f (ix4 ⟨a, ha⟩ j ⟨h, hh⟩ d) := by
  congr 1
  funext i
  apply Fin.ext
  match i with
  | 0 => show a + 1 * 0 = a; omega
  | 1 => show 0 + 1 * j.val = j.val; omega
  | 2 => show h + 1 * 0 = h; omega
  | 3 => show 0 + 1 * d.val = d.val; omega

/-- Where a load of consecutive whole rows lands. -/
theorem rows_idx (f : S1024x1024.Idx → EReal) {len : Nat} (off : Fin 2 → Nat)
    (inb : ∀ i, off i + (⟨2, ![len, 1024]⟩ : Shape).size i ≤ S1024x1024.size i) (h1 : off 1 = 0) (r : Fin len) (n : Fin 1024) :
    f ((Rect.unit (s := S1024x1024) off (⟨2, ![len, 1024]⟩ : Shape).size inb).toLoadRect.idx (ix2 r n))
      = f (ix2 ⟨off 0 + r.val, by have := inb 0; have h : off 0 + len ≤ 1024 := this; omega⟩ n) := by
  congr 1
  funext i
  apply Fin.ext
  match i with
  | 0 => show off 0 + 1 * r.val = off 0 + r.val; omega
  | 1 => show off 1 + 1 * n.val = n.val; omega

section

variable (mk : IVec S512x1024 1) (q : FVec Ideal S512x1024 .f32) (kv : S2x1024x8x128.Idx → EReal)
  (wo : S1024x1024.Idx → EReal) (r : Fin 512) (n : Fin 1024)

theorem at0_apply : at0 mk q kv wo (ix2 r n) = 0 + term mk q kv wo 0 r n := by
  refine (hd_term mk q kv wo 0 _ _ _ _ _ r n (fun d => by pointwise) (fun j d => kv_idx kv (a := 0) (h := 0) (by decide) (by decide) _ j d)
    (fun j d => kv_idx kv (a := 1) (h := 0) (by decide) (by decide) _ j d) (fun d => rows_idx wo (len := 128) _ _ rfl d n)).trans ?_
  pointwise
theorem at1_apply : at1 mk q kv wo (ix2 r n) = at0 mk q kv wo (ix2 r n) + term mk q kv wo 1 r n := by
  refine (hd_term mk q kv wo 1 _ _ _ _ _ r n (fun d => by pointwise) (fun j d => kv_idx kv (a := 0) (h := 1) (by decide) (by decide) _ j d)
    (fun j d => kv_idx kv (a := 1) (h := 1) (by decide) (by decide) _ j d) (fun d => rows_idx wo (len := 128) _ _ rfl d n)).trans ?_
  rfl
theorem at2_apply : at2 mk q kv wo (ix2 r n) = at1 mk q kv wo (ix2 r n) + term mk q kv wo 2 r n := by
  refine (hd_term mk q kv wo 2 _ _ _ _ _ r n (fun d => by pointwise) (fun j d => kv_idx kv (a := 0) (h := 2) (by decide) (by decide) _ j d)
    (fun j d => kv_idx kv (a := 1) (h := 2) (by decide) (by decide) _ j d) (fun d => rows_idx wo (len := 128) _ _ rfl d n)).trans ?_
  rfl
theorem at3_apply : at3 mk q kv wo (ix2 r n) = at2 mk q kv wo (ix2 r n) + term mk q kv wo 3 r n := by
  refine (hd_term mk q kv wo 3 _ _ _ _ _ r n (fun d => by pointwise) (fun j d => kv_idx kv (a := 0) (h := 3) (by decide) (by decide) _ j d)
    (fun j d => kv_idx kv (a := 1) (h := 3) (by decide) (by decide) _ j d) (fun d => rows_idx wo (len := 128) _ _ rfl d n)).trans ?_
  rfl
theorem at4_apply : at4 mk q kv wo (ix2 r n) = at3 mk q kv wo (ix2 r n) + term mk q kv wo 4 r n := by
  refine (hd_term mk q kv wo 4 _ _ _ _ _ r n (fun d => by pointwise) (fun j d => kv_idx kv (a := 0) (h := 4) (by decide) (by decide) _ j d)
    (fun j d => kv_idx kv (a := 1) (h := 4) (by decide) (by decide) _ j d) (fun d => rows_idx wo (len := 128) _ _ rfl d n)).trans ?_
  rfl
theorem at5_apply : at5 mk q kv wo (ix2 r n) = at4 mk q kv wo (ix2 r n) + term mk q kv wo 5 r n := by
  refine (hd_term mk q kv wo 5 _ _ _ _ _ r n (fun d => by pointwise) (fun j d => kv_idx kv (a := 0) (h := 5) (by decide) (by decide) _ j d)
    (fun j d => kv_idx kv (a := 1) (h := 5) (by decide) (by decide) _ j d) (fun d => rows_idx wo (len := 128) _ _ rfl d n)).trans ?_
  rfl
theorem at6_apply : at6 mk q kv wo (ix2 r n) = at5 mk q kv wo (ix2 r n) + term mk q kv wo 6 r n := by
  refine (hd_term mk q kv wo 6 _ _ _ _ _ r n (fun d => by pointwise) (fun j d => kv_idx kv (a := 0) (h := 6) (by decide) (by decide) _ j d)
    (fun j d => kv_idx kv (a := 1) (h := 6) (by decide) (by decide) _ j d) (fun d => rows_idx wo (len := 128) _ _ rfl d n)).trans ?_
  rfl
theorem at7_apply : at7 mk q kv wo (ix2 r n) = at6 mk q kv wo (ix2 r n) + term mk q kv wo 7 r n := by
  refine (hd_term mk q kv wo 7 _ _ _ _ _ r n (fun d => by pointwise) (fun j d => kv_idx kv (a := 0) (h := 7) (by decide) (by decide) _ j d)
    (fun j d => kv_idx kv (a := 1) (h := 7) (by decide) (by decide) _ j d) (fun d => rows_idx wo (len := 128) _ _ rfl d n)).trans ?_
  rfl

/-- The eight heads' contribution is the sum of their terms. -/
theorem at7_sum : at7 mk q kv wo (ix2 r n) = ∑ h : Fin 8, term mk q kv wo h r n := by
  rw [at7_apply, at6_apply, at5_apply, at4_apply, at3_apply, at2_apply, at1_apply, at0_apply, Fin.sum_univ_eight, zero_add]

end

/-- The block number of a position as the vector unit computes it: the quotient by 64 rounded down. -/
def blk (p : BitVec 32) : BitVec 32 :=
  let s := IntOp.subi ((IntOp.cmpi .sgt p 0#32).setWidth 32) ((IntOp.cmpi .slt p 0#32).setWidth 32)
  let t := IntOp.subi ((IntOp.cmpi .sgt 64#32 0#32).setWidth 32) ((IntOp.cmpi .slt 64#32 0#32).setWidth 32)
  let d := IntOp.divsi .vector p 64#32
  Scalar.select (IntOp.andi (IntOp.cmpi .ne s t) (IntOp.cmpi .ne (IntOp.remsi .vector p 64#32) 0#32)) (IntOp.subi d 1#32) d

/-- The mask of one pair, from the two block numbers. -/
def maskBit (q k : BitVec 32) : BitVec 1 :=
  IntOp.ori (IntOp.ori (IntOp.cmpi .eq q k) (IntOp.cmpi .eq k 0#32))
    (IntOp.cmpi .eq (IntOp.remsi .vector (IntOp.addi q k) 3#32) 0#32)

/-- The block number of a position below 1024. -/
theorem blk_ofNat : ∀ i : Fin 1024, blk (BitVec.ofNat 32 i.val) = BitVec.ofNat 32 (i.val / 64) := by decide +kernel

/-- The mask of two of the sixteen blocks. -/
theorem maskBit_ofNat : ∀ a b : Fin 16, maskBit (BitVec.ofNat 32 a.val) (BitVec.ofNat 32 b.val)
    = if a.val = b.val ∨ b.val = 0 ∨ (a.val + b.val) % 3 = 0 then 1#1 else 0#1 := by decide +kernel

/-- The mask of the 512 rows from row `o`. -/
theorem maskW_apply (o : Nat) (r : Fin 512) (j : Fin 1024) (ho : o + r.val < 1024) :
    maskW (BitVec.ofNat 32 o) (ix2 r j) = if Cert.Attn.keep ⟨o + r.val, ho⟩ j then 1#1 else 0#1 := by
  have h : maskW (BitVec.ofNat 32 o) (ix2 r j)
      = maskBit (blk (BitVec.ofNat 32 r.val + BitVec.ofNat 32 o)) (blk (BitVec.ofNat 32 j.val)) := by
    pointwise [maskW, k0_pay3, k0_pay4, maskBit, blk]
    rfl
  rw [h, ← BitVec.ofNat_add, Nat.add_comm, blk_ofNat j, blk_ofNat ⟨o + r.val, ho⟩]
  exact maskBit_ofNat ⟨(o + r.val) / 64, by omega⟩ ⟨j.val / 64, by omega⟩

section

variable (m : (ℓ : Loc nD τ sig) → Buf (Elt Ideal) ℓ) (c : Dev nD)

/-- The first rows of the two halves, as the mask and the loads name them. -/
theorem off2_eq : sxW c = BitVec.ofNat 32 (k0_off2 c 0) ∧ k0_off2 c 1 = 0 ∧ k0_off2 c 0 ≤ 512 := by
  revert c; decide +kernel
theorem off3_eq : kxW c = BitVec.ofNat 32 (k0_off3 c 0) ∧ k0_off3 c 1 = 0 ∧ k0_off3 c 0 ≤ 512 := by
  revert c; decide +kernel

/-- A device's staged blocks, as arrays of extended reals. -/
def xArr : S1024x1024.Idx → EReal := xstg m c
def wqArr : S1024x1024.Idx → EReal := wqstg m c
def woArr : S1024x1024.Idx → EReal := wostg m c

/-- The scaled query weights at an index. -/
theorem wqb_apply (k e : Fin 1024) : wqb m c (ix2 k e) = wqArr m c (ix2 k e) * scale := by
  have h := rows_idx (wqArr m c) (len := 1024) ![0, 0] inb_S1024x1024_S1024x1024_0_0 rfl k e
  pointwise [wqb, k0_pay1]
  refine congrArg (· * scale) (h.trans ?_)
  congr 2
  exact Fin.ext (Nat.zero_add _)

/-- The queries of 512 loaded rows at an index. -/
theorem q_apply (b : FVec Ideal S1024x1024 .bf16) (x : Vec Ideal S512x1024 .f32) (r : Fin 512) (e : Fin 1024) :
    k0_pay2 b x (ix2 r e) = ∑ k : Fin 1024, x (ix2 r k) * b (ix2 k e) := by
  pointwise [k0_pay2]

/-- Every window's block is its whole array. -/
theorem index_eq (a : Fin 2) : win0_0.index t₀ a = 0 ∧ win0_1.index t₀ a = 0 ∧ win0_2.index t₀ a = 0 := by
  revert a; decide +kernel

/-- A reshape that drops the leading unit axis, at an index. -/
theorem cast_apply (x : S1x1024x1024.Idx → EReal) (i k : Fin 1024) :
    shapeCast S1024x1024 x shapeCasts_S1x1024x1024_S1024x1024 (ix2 i k) = x (ix3 0 i k) := by
  pointwise

/-- The staged block of `x` is the argument without its leading unit axis. -/
theorem xArr_apply (i k : Fin 1024) : xArr m c (ix2 i k)
    = (m ((c : Thread nD τ).loc main_arg0) : S1x1024x1024.Idx → EReal) (ix3 0 i k) := by
  have h : xArr m c (ix2 i k) = (V m c main_v1 : S1024x1024.Idx → EReal) (ix2 i k) := by
    unfold xArr xstg
    blk_ext [iblk, fun a => (index_eq a).1, fun a => (index_eq a).2.1, fun a => (index_eq a).2.2]
  have e : (V m c main_v1 : S1024x1024.Idx → EReal)
      = shapeCast S1024x1024 (m ((c : Thread nD τ).loc main_arg0) : S1x1024x1024.Idx → EReal)
          shapeCasts_S1x1024x1024_S1024x1024 := by
    show StableHlo.after hostOps0 (fun b => m (c, b)) (Proc.devRef .tc main_v1) = _
    simp only [hostOps0]
    after_results
    rfl
  rw [h, e, cast_apply]

/-- The staged block of `Wq` is the device's argument. -/
theorem wqArr_apply (k e : Fin 1024) : wqArr m c (ix2 k e)
    = (m ((c : Thread nD τ).loc main_arg1) : S1024x1024.Idx → EReal) (ix2 k e) := by
  rw [← V_main_arg1 m c]
  unfold wqArr wqstg
  blk_ext [iblk, fun a => (index_eq a).1, fun a => (index_eq a).2.1, fun a => (index_eq a).2.2]

/-- The staged block of `Wo` is the device's argument. -/
theorem woArr_apply (e n : Fin 1024) : woArr m c (ix2 e n)
    = (m ((c : Thread nD τ).loc main_arg4) : S1024x1024.Idx → EReal) (ix2 e n) := by
  rw [← V_main_arg4 m c]
  unfold woArr wostg
  blk_ext [iblk, fun a => (index_eq a).1, fun a => (index_eq a).2.1, fun a => (index_eq a).2.2]

/-- The key/value scratch as an array of extended reals. -/
def kvArr : S2x1024x8x128.Idx → EReal := kvF m c

theorem kvArr_key (j : Fin 1024) (h : Fin 8) (d : Fin 128) : kvArr m c (ix4 0 j h d)
    = (m ((c : Thread nD τ).loc main_arg2) : S1x1024x64x128.Idx → EReal) (ix4 0 j (Cert.Attn.head c h) d) := by
  rw [← V_main_arg2 m c]
  unfold kvArr kvF
  refine Eq.trans (if_pos (by exact rfl)) ?_
  refine congrArg (V m c main_arg2 : S1x1024x64x128.Idx → EReal) ?_
  funext a
  match a with
  | 0 => rfl
  | 1 => rfl
  | 2 => rfl
  | 3 => rfl

theorem kvArr_value (j : Fin 1024) (h : Fin 8) (d : Fin 128) : kvArr m c (ix4 1 j h d)
    = (m ((c : Thread nD τ).loc main_arg3) : S1x1024x64x128.Idx → EReal) (ix4 0 j (Cert.Attn.head c h) d) := by
  rw [← V_main_arg3 m c]
  unfold kvArr kvF
  refine Eq.trans (if_neg (by exact Nat.one_ne_zero)) ?_
  refine congrArg (V m c main_arg3 : S1x1024x64x128.Idx → EReal) ?_
  funext a
  match a with
  | 0 => rfl
  | 1 => rfl
  | 2 => rfl
  | 3 => rfl

section

variable (X : Fin 1024 → Fin 1024 → EReal) (W : Fin 1024 → Fin 8192 → EReal)
  (K V : Fin 1024 → Fin 64 → Fin 128 → EReal) (O : Fin 8192 → Fin 1024 → EReal)

/-- What relates the device's arguments to the whole arrays: `x`, `K` and `V` are whole on it, `Wq` and `Wo` are its
    eighth of the 8192 columns or rows. -/
structure Holds : Prop where
  x : ∀ i k, xArr m c (ix2 i k) = X i k
  wq : ∀ k (e : Fin 1024), wqArr m c (ix2 k e) = W k ⟨1024 * c.val + e.val, by have : c.val < 8 := c.isLt; omega⟩
  key : ∀ j h d, kvArr m c (ix4 0 j h d) = K j (Cert.Attn.head c h) d
  value : ∀ j h d, kvArr m c (ix4 1 j h d) = V j (Cert.Attn.head c h) d
  wo : ∀ (e : Fin 1024) n, woArr m c (ix2 e n) = O ⟨1024 * c.val + e.val, by have : c.val < 8 := c.isLt; omega⟩ n

variable {X W K V O} {m c}

/-- The contribution of the device's heads to the 512 rows from row `o`. -/
theorem at7_eq (H : Holds m c X W K V O) (o : Nat) (ho : o ≤ 512) (xr : Vec Ideal S512x1024 .f32)
    (hx : ∀ (r : Fin 512) k, xr (ix2 r k) = xArr m c (ix2 ⟨o + r.val, by omega⟩ k)) (r : Fin 512) (n : Fin 1024) :
    at7 (maskW (BitVec.ofNat 32 o)) (k0_pay2 (wqb m c) xr) (kvArr m c) (woArr m c) (ix2 r n)
      = Cert.Attn.partD scale masked X W K V O c ⟨o + r.val, by omega⟩ n := by
  rw [at7_sum]
  unfold Cert.Attn.partD term
  refine Finset.sum_congr rfl fun h _ => ?_
  have hcol : ∀ d : Fin 128, ∀ p, (⟨1024 * c.val + (128 * h.val + d.val), p⟩ : Fin 8192)
      = Cert.Attn.col (Cert.Attn.head c h) d := fun d p => Fin.ext (by
    show 1024 * c.val + (128 * h.val + d.val) = 128 * (8 * c.val + h.val) + d.val
    omega)
  have hs : ∀ j, Ideal.exp (Scalar.select (maskW (BitVec.ofNat 32 o) (ix2 r j))
        (∑ d : Fin 128, k0_pay2 (wqb m c) xr (ix2 r ⟨128 * h.val + d.val, by omega⟩) * kvArr m c (ix4 0 j h d)) masked)
      = Ideal.exp (Cert.Attn.scoreD scale masked X W K (Cert.Attn.head c h) ⟨o + r.val, by omega⟩ j) := fun j => by
    rw [maskW_apply o r j (by omega)]
    unfold Cert.Attn.scoreD
    simp only [q_apply, wqb_apply, hx, H.x, H.wq, H.key, hcol]
    split <;> rfl
  simp only [hs, H.value, H.wo, hcol]
  rfl

/-- The contribution to the half sent first. -/
theorem acc1_apply (H : Holds m c X W K V O) (r : Fin 512) (n : Fin 1024) :
    acc1 m c (ix2 r n) = Cert.Attn.partD scale masked X W K V O c
      ⟨k0_off2 c 0 + r.val, by have := (off2_eq c).2.2; omega⟩ n := by
  obtain ⟨e, e1, e2⟩ := off2_eq c
  have h := at7_eq H (k0_off2 c 0) e2 (ldX2 c (xArr m c)) (fun r k => rows_idx (xArr m c) (len := 512) _ _ e1 r k) r n
  rw [← e] at h
  exact h

/-- The contribution to the half kept. -/
theorem acc2_apply (H : Holds m c X W K V O) (r : Fin 512) (n : Fin 1024) :
    acc2 m c (ix2 r n) = Cert.Attn.partD scale masked X W K V O c
      ⟨k0_off3 c 0 + r.val, by have := (off3_eq c).2.2; omega⟩ n := by
  obtain ⟨e, e1, e2⟩ := off3_eq c
  have h := at7_eq H (k0_off3 c 0) e2 (ldX3 c (xArr m c)) (fun r k => rows_idx (xArr m c) (len := 512) _ _ e1 r k) r n
  rw [← e] at h
  exact h

end

end

end Cert.KernelIdeal.Net
-- ==== Proof.Collect.lean ====
module

public import proofs.«01_k».proof.Proof.HeadValue

@[expose] public section

/-!
# The reduce-scatter and the all-gather, row by row

Three exchanges halve the rows a device is adding up — 512, 256, 128 — and each adds a partner's
contribution to them; three more hand the finished rows back. At the end every row of every device
holds the sum of all eight contributions.
-/

noncomputable section

namespace Cert.KernelIdeal.Net

open Cert.KernelIdeal Cert.KernelIdeal.Gen Idealize.ShloMosaic Idealize.ShloMosaic.TcCoe
open scoped BigOperators

/-- A store of consecutive whole rows, read at an index. -/
theorem st_apply {len : Nat} (off : Fin 2 → Nat)
    (inb : ∀ i, off i + (⟨2, ![len, 1024]⟩ : Shape).size i ≤ S1024x1024.size i) (h1 : off 1 = 0) (f : OutT Ideal)
    (w : (⟨2, ![len, 1024]⟩ : Shape).Idx → EReal) (i n : Fin 1024) :
    stOut (Rect.unit (s := S1024x1024) off (⟨2, ![len, 1024]⟩ : Shape).size inb) f w (ix2 i n)
      = if h : off 0 ≤ i.val ∧ i.val < off 0 + len then w (ix2 ⟨i.val - off 0, by omega⟩ n) else f (ix2 i n) := by
  unfold stOut
  split
  · rename_i h
    have e : (ix2 i n : S1024x1024.Idx)
        = (outM.access (Rect.unit (s := S1024x1024) off (⟨2, ![len, 1024]⟩ : Shape).size inb)).emb
            (ix2 (⟨i.val - off 0, by omega⟩ : Fin len) n) := by
      funext a
      apply Fin.ext
      match a with
      | 0 => show i.val = off 0 + 1 * (i.val - off 0); omega
      | 1 => show n.val = off 1 + 1 * n.val; omega
    rw [e]
    exact View.write_emb_of_mem _ _ (Finset.mem_univ _)
  · rename_i h
    refine View.write_of_not_mem _ _ _ fun hm => h ?_
    rw [show (outM.access (Rect.unit (s := S1024x1024) off (⟨2, ![len, 1024]⟩ : Shape).size inb)).setOn Finset.univ
      = (Rect.unit (s := S1024x1024) off (⟨2, ![len, 1024]⟩ : Shape).size inb).set from View.set_slice_whole _ _] at hm
    exact (Rect.mem_set_unit.mp hm) 0

/-- A load of consecutive whole rows of the result's staging buffer, read at an index. -/
theorem ld_apply {len : Nat} (off : Fin 2 → Nat)
    (inb : ∀ i, off i + (⟨2, ![len, 1024]⟩ : Shape).size i ≤ S1024x1024.size i) (h1 : off 1 = 0) (f : OutT Ideal)
    (r : Fin len) (i n : Fin 1024) (h : i.val = off 0 + r.val) :
    outM.view.readAt (Elt Ideal) (Rect.unit (s := S1024x1024) off (⟨2, ![len, 1024]⟩ : Shape).size inb).toLoadRect f (ix2 r n)
      = f (ix2 i n) := by
  refine (rows_idx f off inb h1 r n).trans ?_
  congr 2
  exact Fin.ext h.symm

/-- The first rows the six rectangles of a device name: the two halves; the two quarters of the half kept; the two eighths
    of the quarter kept. -/
theorem offs (c : Dev nD) :
    (k0_off2 c 0 = 0 ∧ k0_off3 c 0 = 512 ∨ k0_off2 c 0 = 512 ∧ k0_off3 c 0 = 0)
    ∧ (k0_off4 c 0 = k0_off3 c 0 ∧ k0_off5 c 0 = k0_off3 c 0 + 256 ∨ k0_off5 c 0 = k0_off3 c 0 ∧ k0_off4 c 0 = k0_off3 c 0 + 256)
    ∧ (k0_off6 c 0 = k0_off5 c 0 ∧ k0_off7 c 0 = k0_off5 c 0 + 128 ∨ k0_off7 c 0 = k0_off5 c 0 ∧ k0_off6 c 0 = k0_off5 c 0 + 128) := by
  revert c; decide +kernel

/-- What a device keeps its partner sends it, axis by axis. -/
theorem offs_partner (c : Dev nD) :
    (k0_off2 (xp c) 0 = k0_off3 c 0 ∧ k0_off3 (xp c) 0 = k0_off2 c 0)
    ∧ (k0_off3 (yp c) 0 = k0_off3 c 0 ∧ k0_off4 (yp c) 0 = k0_off5 c 0 ∧ k0_off5 (yp c) 0 = k0_off4 c 0)
    ∧ (k0_off3 (zp c) 0 = k0_off3 c 0 ∧ k0_off5 (zp c) 0 = k0_off5 c 0 ∧ k0_off6 (zp c) 0 = k0_off7 c 0
      ∧ k0_off7 (zp c) 0 = k0_off6 c 0) := by
  revert c; decide +kernel

/-- Every rectangle spans the columns. -/
theorem offs_col (c : Dev nD) : k0_off2 c 1 = 0 ∧ k0_off3 c 1 = 0 ∧ k0_off4 c 1 = 0 ∧ k0_off5 c 1 = 0 ∧ k0_off6 c 1 = 0
    ∧ k0_off7 c 1 = 0 := by
  revert c; decide +kernel

/-! ## The payloads: sums, and copies -/

theorem pay48_apply (x : Vec Ideal S512x1024 .f32) (y : Vec Ideal S512x1024 .bf16) (r : Fin 512) (n : Fin 1024) :
    k0_pay48 x y (ix2 r n) = x (ix2 r n) + y (ix2 r n) := by pointwise [k0_pay48]
theorem pay50_apply (x : Vec Ideal S256x1024 .f32) (y : Vec Ideal S256x1024 .bf16) (r : Fin 256) (n : Fin 1024) :
    k0_pay50 x y (ix2 r n) = x (ix2 r n) + y (ix2 r n) := by pointwise [k0_pay50]
theorem pay52_apply (x : Vec Ideal S128x1024 .f32) (y : Vec Ideal S128x1024 .bf16) (r : Fin 128) (n : Fin 1024) :
    k0_pay52 x y (ix2 r n) = x (ix2 r n) + y (ix2 r n) := by pointwise [k0_pay52]
theorem pay49_apply (x : Vec Ideal S256x1024 .f32) (r : Fin 256) (n : Fin 1024) : k0_pay49 x (ix2 r n) = x (ix2 r n) := by
  pointwise [k0_pay49]
theorem pay51_apply (x : Vec Ideal S128x1024 .f32) (r : Fin 128) (n : Fin 1024) : k0_pay51 x (ix2 r n) = x (ix2 r n) := by
  pointwise [k0_pay51]
theorem pay54_apply (x : Vec Ideal S128x1024 .f32) (r : Fin 128) (n : Fin 1024) :
    k0_pay54 (k0_pay53 x) (ix2 r n) = x (ix2 r n) := by pointwise [k0_pay54, k0_pay53]
theorem pay55_apply (x : Vec Ideal S128x1024 .bf16) (r : Fin 128) (n : Fin 1024) : k0_pay55 x (ix2 r n) = x (ix2 r n) := by
  pointwise [k0_pay55]
theorem pay56_apply (x : Vec Ideal S256x1024 .f32) (r : Fin 256) (n : Fin 1024) : k0_pay56 x (ix2 r n) = x (ix2 r n) := by
  pointwise [k0_pay56]
theorem pay57_apply (x : Vec Ideal S256x1024 .bf16) (r : Fin 256) (n : Fin 1024) : k0_pay57 x (ix2 r n) = x (ix2 r n) := by
  pointwise [k0_pay57]
theorem pay58_apply (x : Vec Ideal S512x1024 .f32) (r : Fin 512) (n : Fin 1024) : k0_pay58 x (ix2 r n) = x (ix2 r n) := by
  pointwise [k0_pay58]
theorem pay59_apply (x : Vec Ideal S512x1024 .bf16) (r : Fin 512) (n : Fin 1024) : k0_pay59 x (ix2 r n) = x (ix2 r n) := by
  pointwise [k0_pay59]

/-! ## The stages -/

/-- The sum a device gathers along the three axes is the sum over all devices. -/
theorem sum_partners (f : Dev nD → EReal) (c : Dev nD) :
    (f c + f (xp c) + (f (yp c) + f (xp (yp c))))
      + (f (zp c) + f (xp (zp c)) + (f (yp (zp c)) + f (xp (yp (zp c))))) = ∑ d : Fin 8, f d := by
  obtain ⟨g, hg⟩ : ∃ g : Nat → EReal, ∀ d : Dev nD, f d = g d.val :=
    ⟨fun k => if h : k < 8 then f ⟨k, h⟩ else 0, fun d => by
      show f d = dite (d.val < 8) _ _
      rw [dif_pos (show d.val < 8 from d.isLt)]⟩
  rw [Fin.sum_univ_eight]
  simp only [hg]
  match c with
  | 0 | 1 | 2 | 3 | 4 | 5 | 6 | 7 => simp only [xp, yp, zp]; norm_num; abel

section

variable {m : (ℓ : Loc nD τ sig) → Buf (Elt Ideal) ℓ} {P : Dev nD → Fin 1024 → Fin 1024 → EReal}

/-- The two stored contributions are the rows of one array. -/
structure Contrib (m : (ℓ : Loc nD τ sig) → Buf (Elt Ideal) ℓ) (P : Dev nD → Fin 1024 → Fin 1024 → EReal) : Prop where
  acc1 : ∀ (c : Dev nD) (r : Fin 512) (n i : Fin 1024), i.val = k0_off2 c 0 + r.val → acc1 m c (ix2 r n) = P c i n
  acc2 : ∀ (c : Dev nD) (r : Fin 512) (n i : Fin 1024), i.val = k0_off3 c 0 + r.val → acc2 m c (ix2 r n) = P c i n

variable (H : Contrib m P)
include H

theorem out0_at (c : Dev nD) (i n : Fin 1024) : out0 m c (ix2 i n) = P c i n := by
  have := offs c
  have hi := i.isLt
  unfold out0
  refine (st_apply (len := 512) _ (k0_off3_inb c) (offs_col c).2.1 _ _ i n).trans ?_
  split
  · exact H.acc2 c _ n i (by show i.val = _ + (i.val - _); omega)
  · refine (st_apply (len := 512) _ (k0_off2_inb c) (offs_col c).1 _ _ i n).trans ?_
    split
    · exact H.acc1 c _ n i (by show i.val = _ + (i.val - _); omega)
    · omega

/-- A message's rows are the sender's at the receiver's rows. -/
theorem msg0_at (c : Dev nD) (r : Fin 512) (n i : Fin 1024) (h : i.val = k0_off2 c 0 + r.val) :
    msg0 m c (ix2 r n) = P c i n := by
  rw [← H.acc1 c r n i h]
  unfold msg0
  pointwise

theorem out1_at (c : Dev nD) (i n : Fin 1024) (h0 : k0_off3 c 0 ≤ i.val) (h1 : i.val < k0_off3 c 0 + 512) :
    out1 m c (ix2 i n) = P c i n + P (xp c) i n := by
  unfold out1
  refine (st_apply (len := 512) _ (k0_off3_inb c) (offs_col c).2.1 _ _ i n).trans ?_
  rw [dif_pos ⟨h0, h1⟩, pay48_apply, msg0_at H (xp c) _ n i (by
    rw [(offs_partner c).1.1]; show i.val = _ + (i.val - _); omega),
    ld_apply (len := 512) _ (k0_off3_inb c) (offs_col c).2.1 _ _ i n (by show i.val = _ + (i.val - _); omega),
    out0_at H]

theorem msg1_at (c : Dev nD) (r : Fin 256) (i n : Fin 1024) (h : i.val = k0_off4 c 0 + r.val) :
    msg1 m c (ix2 r n) = P c i n + P (xp c) i n := by
  have := offs c
  have := r.isLt
  unfold msg1
  rw [pay49_apply, ld_apply (len := 256) _ (k0_off4_inb c) (offs_col c).2.2.1 _ _ i n h, out1_at H c i n (by omega) (by omega)]

theorem out2_at (c : Dev nD) (i n : Fin 1024) (h0 : k0_off5 c 0 ≤ i.val) (h1 : i.val < k0_off5 c 0 + 256) :
    out2 m c (ix2 i n) = P c i n + P (xp c) i n + (P (yp c) i n + P (xp (yp c)) i n) := by
  have := offs c
  unfold out2
  refine (st_apply (len := 256) _ (k0_off5_inb c) (offs_col c).2.2.2.1 _ _ i n).trans ?_
  rw [dif_pos ⟨h0, h1⟩, pay50_apply, msg1_at H (yp c) _ i n (by
    rw [(offs_partner c).2.1.2.1]; show i.val = _ + (i.val - _); omega),
    ld_apply (len := 256) _ (k0_off5_inb c) (offs_col c).2.2.2.1 _ _ i n (by show i.val = _ + (i.val - _); omega),
    out1_at H c i n (by omega) (by omega)]

theorem msg2_at (c : Dev nD) (r : Fin 128) (i n : Fin 1024) (h : i.val = k0_off6 c 0 + r.val) :
    msg2 m c (ix2 r n) = P c i n + P (xp c) i n + (P (yp c) i n + P (xp (yp c)) i n) := by
  have := offs c
  have := r.isLt
  unfold msg2
  rw [pay51_apply, ld_apply (len := 128) _ (k0_off6_inb c) (offs_col c).2.2.2.2.1 _ _ i n h,
    out2_at H c i n (by omega) (by omega)]

/-- After the third exchange the eighth of the rows a device is left with are complete. -/
theorem out3_at (c : Dev nD) (i n : Fin 1024) (h0 : k0_off7 c 0 ≤ i.val) (h1 : i.val < k0_off7 c 0 + 128) :
    out3 m c (ix2 i n) = ∑ d : Fin 8, P d i n := by
  have := offs c
  unfold out3
  refine (st_apply (len := 128) _ (k0_off7_inb c) (offs_col c).2.2.2.2.2 _ _ i n).trans ?_
  rw [dif_pos ⟨h0, h1⟩, pay52_apply, msg2_at H (zp c) _ i n (by
    rw [(offs_partner c).2.2.2.2.1]; show i.val = _ + (i.val - _); omega),
    ld_apply (len := 128) _ (k0_off7_inb c) (offs_col c).2.2.2.2.2 _ _ i n (by show i.val = _ + (i.val - _); omega),
    out2_at H c i n (by omega) (by omega)]
  exact sum_partners (fun d => P d i n) c

theorem msg3_at (c : Dev nD) (r : Fin 128) (i n : Fin 1024) (h : i.val = k0_off7 c 0 + r.val) :
    msg3 m c (ix2 r n) = ∑ d : Fin 8, P d i n := by
  have := r.isLt
  unfold msg3
  rw [pay54_apply, ld_apply (len := 128) _ (k0_off7_inb c) (offs_col c).2.2.2.2.2 _ _ i n h,
    out3_at H c i n (by omega) (by omega)]

/-- The quarter is complete once the partner along the third axis has sent its eighth back. -/
theorem out4_at (c : Dev nD) (i n : Fin 1024) (h0 : k0_off5 c 0 ≤ i.val) (h1 : i.val < k0_off5 c 0 + 256) :
    out4 m c (ix2 i n) = ∑ d : Fin 8, P d i n := by
  have := offs c
  unfold out4
  refine (st_apply (len := 128) _ (k0_off6_inb c) (offs_col c).2.2.2.2.1 _ _ i n).trans ?_
  split
  · rw [pay55_apply, msg3_at H (zp c) _ i n (by
      rw [(offs_partner c).2.2.2.2.2]; show i.val = _ + (i.val - _); omega)]
  · exact out3_at H c i n (by omega) (by omega)

theorem msg4_at (c : Dev nD) (r : Fin 256) (i n : Fin 1024) (h : i.val = k0_off5 c 0 + r.val) :
    msg4 m c (ix2 r n) = ∑ d : Fin 8, P d i n := by
  have := r.isLt
  unfold msg4
  rw [pay56_apply, ld_apply (len := 256) _ (k0_off5_inb c) (offs_col c).2.2.2.1 _ _ i n h,
    out4_at H c i n (by omega) (by omega)]

/-- The half is complete once the partner along the second axis has sent its quarter back. -/
theorem out5_at (c : Dev nD) (i n : Fin 1024) (h0 : k0_off3 c 0 ≤ i.val) (h1 : i.val < k0_off3 c 0 + 512) :
    out5 m c (ix2 i n) = ∑ d : Fin 8, P d i n := by
  have := offs c
  unfold out5
  refine (st_apply (len := 256) _ (k0_off4_inb c) (offs_col c).2.2.1 _ _ i n).trans ?_
  split
  · rw [pay57_apply, msg4_at H (yp c) _ i n (by
      rw [(offs_partner c).2.1.2.2]; show i.val = _ + (i.val - _); omega)]
  · exact out4_at H c i n (by omega) (by omega)

theorem msg5_at (c : Dev nD) (r : Fin 512) (i n : Fin 1024) (h : i.val = k0_off3 c 0 + r.val) :
    msg5 m c (ix2 r n) = ∑ d : Fin 8, P d i n := by
  have := r.isLt
  unfold msg5
  rw [pay58_apply, ld_apply (len := 512) _ (k0_off3_inb c) (offs_col c).2.1 _ _ i n h,
    out5_at H c i n (by omega) (by omega)]

/-- At the end every row holds the sum of the eight contributions. -/
theorem out6_at (c : Dev nD) (i n : Fin 1024) : out6 m c (ix2 i n) = ∑ d : Fin 8, P d i n := by
  have := offs c
  have hi := i.isLt
  unfold out6
  refine (st_apply (len := 512) _ (k0_off2_inb c) (offs_col c).1 _ _ i n).trans ?_
  split
  · rw [pay59_apply, msg5_at H (xp c) _ i n (by
      rw [(offs_partner c).1.2]; show i.val = _ + (i.val - _); omega)]
  · exact out5_at H c i n (by omega) (by omega)

end

end Cert.KernelIdeal.Net
-- ==== Proof.RefValue.lean ====
module

public import proofs.«01_k».proof.Proof.Gen.ReferenceIdeal.Run
public import proofs.«01_k».proof.Proof.Math
public import Idealize.ShloMosaic.Lib.Pointwise

@[expose] public section

/-!
# What the reference computes, entry by entry

The reference's result is one composed term over its five arguments. Here the term is cut at its
block numbers, its mask, its scores, its row maximum, its exponentials, its weights and its context,
each is read at an index, and the result is `Cert.Attn.outR` of the arguments' entries.
-/

noncomputable section

namespace Cert.ReferenceIdeal.Entry

open Cert.ReferenceIdeal Cert.ReferenceIdeal.Gen Idealize.ShloMosaic Idealize.ShloMosaic.TcCoe
open scoped BigOperators

/-- Argument 0 of the reference. -/
abbrev A0 := FVec Ideal S1x1024x1024 .f32
/-- Argument 1 of the reference. -/
abbrev A1 := FVec Ideal S1024x8192 .f32
/-- Argument 2 of the reference. -/
abbrev A2 := FVec Ideal S1x1024x64x128 .f32
/-- Argument 4 of the reference. -/
abbrev A4 := FVec Ideal S8192x1024 .f32

/-- The word of 64 as a rank-0 array. -/
def c64 : IVec S_ 32 := id (constantI S_ 32 64#32)

/-- The block number of each of the 1024 positions: the position divided by 64, rounded down. -/
def blockNo : IVec S1024 32 :=
  select (andi (cmpi .ne (signi (iotaInDim S1024 32 0)) (broadcastInDim S1024 ![] bcast_S_S1024 (signi c64)))
      (cmpi .ne (Host.remsi (iotaInDim S1024 32 0) (broadcastInDim S1024 ![] bcast_S_S1024 c64))
        (broadcastInDim S1024 ![] bcast_S_S1024 (constantI S_ 32 0#32))))
    (subi (Host.divsi (iotaInDim S1024 32 0) (broadcastInDim S1024 ![] bcast_S_S1024 c64))
      (broadcastInDim S1024 ![] bcast_S_S1024 (constantI S_ 32 1#32)))
    (Host.divsi (iotaInDim S1024 32 0) (broadcastInDim S1024 ![] bcast_S_S1024 c64))

/-- The block number read is the quotient. -/
theorem blockNo_apply (i : Fin 1024) : blockNo (ix1 i) = BitVec.ofNat 32 (i.val / 64) := by
  revert i; decide +kernel

/-- The row's block number, over the 1024 by 1024 pairs. -/
def qRow : IVec S1024x1024 32 :=
  broadcastInDim S1024x1024 ![0, 1] bcast_S1024x1_S1024x1024_0_1 (broadcastInDim S1024x1 ![0] bcast_S1024_S1024x1_0 blockNo)

/-- The key's block number as one row. -/
def kRow1 : IVec S1x1024 32 := broadcastInDim S1x1024 ![1] bcast_S1024_S1x1024_1 blockNo

/-- The key's block number, over the pairs. -/
def kRow : IVec S1024x1024 32 := broadcastInDim S1024x1024 ![0, 1] bcast_S1x1024_S1024x1024_0_1 kRow1

/-- The divisor of the remainder: three. -/
def c3 : IVec S_ 32 :=
  select (cmpi .eq (id (constantI S_ 32 3#32)) (constantI S_ 32 0#32)) (constantI S_ 32 1#32) (id (constantI S_ 32 3#32))

/-- The zero word over the pairs. -/
def zeros : IVec S1024x1024 32 := broadcastInDim S1024x1024 ![] bcast_S_S1024x1024 (constantI S_ 32 0#32)

/-- The truncated remainder by three of the two block numbers' sum. -/
def rem3 : IVec S1024x1024 32 :=
  Host.remsi (addi qRow kRow) (broadcastInDim S1024x1024 ![] bcast_S_S1024x1024 c3)

/-- The remainder with the divisor's sign. -/
def mod3 : IVec S1024x1024 32 :=
  select (andi (cmpi .ne (cmpi .slt rem3 zeros)
        (broadcastInDim S1024x1024 ![] bcast_S_S1024x1024 (cmpi .slt c3 (constantI S_ 32 0#32))))
      (cmpi .ne rem3 zeros))
    (addi rem3 (broadcastInDim S1024x1024 ![] bcast_S_S1024x1024 c3)) rem3

/-- The mask over the pairs. -/
def mask : IVec S1024x1024 1 :=
  ori (ori (cmpi .eq qRow kRow)
      (broadcastInDim S1024x1024 ![0, 1] bcast_S1x1024_S1024x1024_0_1
        (cmpi .eq kRow1 (broadcastInDim S1x1024 ![] bcast_S_S1x1024 (constantI S_ 32 0#32)))))
    (cmpi .eq mod3 zeros)

/-- The masked, scaled scores. -/
def scores (x : A0) (w : A1) (k : A2) : FVec Ideal S1x64x1024x1024 .f32 :=
  select (broadcastInDim S1x64x1024x1024 ![0, 1, 2, 3] bcast_S1x1x1024x1024_S1x64x1024x1024_0_1_2_3
      (broadcastInDim S1x1x1024x1024 ![2, 3] bcast_S1024x1024_S1x1x1024x1024_2_3 mask))
    (mulf (Host.dotGeneral dot_S1x1024x64x128_S1x1024x64x128_S1x64x1024x1024_3_3_1_1_02_02 none
        (shapeCast S1x1024x64x128 (Host.dotGeneral dot_S1x1024x1024_S1024x8192_S1x1024x8192_2_0_01_1_n_n none x w)
          shapeCasts_S1x1024x8192_S1x1024x64x128) k)
      (broadcastInDim S1x64x1024x1024 ![] bcast_S_S1x64x1024x1024 (constant S_ .f32 0x3DB504F3#32)))
    (broadcastInDim S1x64x1024x1024 ![] bcast_S_S1x64x1024x1024 (id (constant S_ .f32 0xCE6E6B28#32)))

/-- Each row's greatest score. -/
def rowMax (s : FVec Ideal S1x64x1024x1024 .f32) : FVec Ideal S1x64x1024 .f32 :=
  Host.reduce FloatOps.maximumf s (constant S_ .f32 0xFF800000#32) reducesTo_S1x64x1024x1024_S1x64x1024_d3 h_S_

/-- The exponentials of the scores below their row's greatest. -/
def expo (s : FVec Ideal S1x64x1024x1024 .f32) : FVec Ideal S1x64x1024x1024 .f32 :=
  Host.exp (subf s (broadcastInDim S1x64x1024x1024 ![0, 1, 2, 3] bcast_S1x64x1024x1_S1x64x1024x1024_0_1_2_3
    (broadcastInDim S1x64x1024x1 ![0, 1, 2] bcast_S1x64x1024_S1x64x1024x1_0_1_2 (rowMax s))))

/-- Whether a row keeps any key. -/
def keepRow : IVec S1024 1 :=
  Host.reduce IntOp.ori mask (constantI S_ 1 0#1) reducesTo_S1024x1024_S1024_d1 h_S_

/-- The same as a column. -/
def keepCol : IVec S1x1x1024x1 1 := broadcastInDim S1x1x1024x1 ![2] bcast_S1024_S1x1x1024x1_2 keepRow

/-- Each row's sum of exponentials, one where the row keeps no key. -/
def rowSum (e : FVec Ideal S1x64x1024x1024 .f32) : FVec Ideal S1x64x1024x1 .f32 :=
  select (broadcastInDim S1x64x1024x1 ![0, 1, 2, 3] bcast_S1x1x1024x1_S1x64x1024x1_0_1_2_3 keepCol)
    (broadcastInDim S1x64x1024x1 ![0, 1, 2] bcast_S1x64x1024_S1x64x1024x1_0_1_2
      (Host.reduceAdd e (constant S_ .f32 0x00000000#32) reducesTo_S1x64x1024x1024_S1x64x1024_d3 h_S_))
    (broadcastInDim S1x64x1024x1 ![] bcast_S_S1x64x1024x1 (id (constant S_ .f32 0x3F800000#32)))

/-- The attention weights. -/
def weights (e : FVec Ideal S1x64x1024x1024 .f32) : FVec Ideal S1x64x1024x1024 .f32 :=
  select (broadcastInDim S1x64x1024x1024 ![0, 1, 2, 3] bcast_S1x1x1024x1_S1x64x1024x1024_0_1_2_3 keepCol)
    (Host.divf e (broadcastInDim S1x64x1024x1024 ![0, 1, 2, 3] bcast_S1x64x1024x1_S1x64x1024x1024_0_1_2_3 (rowSum e)))
    (broadcastInDim S1x64x1024x1024 ![] bcast_S_S1x64x1024x1024 (id (constant S_ .f32 0x00000000#32)))

/-- The context, one row of 8192 columns for each position. -/
def context (v : A2) (p : FVec Ideal S1x64x1024x1024 .f32) : FVec Ideal S1x1024x8192 .f32 :=
  shapeCast S1x1024x8192 (transpose S1x1024x64x128 [0, 3, 1, 2]
    (Host.dotGeneral dot_S1x1024x64x128_S1x64x1024x1024_S1x64x128x1024_1_3_3_2_02_01 none v p)
    transposes_S1x64x128x1024_S1x1024x64x128_0_3_1_2) shapeCasts_S1x1024x64x128_S1x1024x8192

/-- The result. -/
def out (x : A0) (w : A1) (k v : A2) (o : A4) : A0 :=
  Host.dotGeneral dot_S1x1024x8192_S8192x1024_S1x1024x1024_2_0_01_1_n_n none
    (context v (weights (expo (scores x w k)))) o

/-- The reference's composed term is the result so cut. -/
theorem res_eq (m : (ℓ : Loc nD τ sig) → Buf (Elt Ideal) ℓ) (c : Dev nD) :
    Value.res_main_v44 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

/-- The mask of one pair, from the two block numbers. -/
def maskWord (q k : BitVec 32) : BitVec 1 :=
  let c : BitVec 32 := Scalar.select (IntOp.cmpi .eq 3#32 0#32) 1#32 3#32
  let r := IntOp.remsi .host (IntOp.addi q k) c
  let md := Scalar.select (IntOp.andi (IntOp.cmpi .ne (IntOp.cmpi .slt r 0#32) (IntOp.cmpi .slt c 0#32))
    (IntOp.cmpi .ne r 0#32)) (IntOp.addi r c) r
  IntOp.ori (IntOp.ori (IntOp.cmpi .eq q k) (IntOp.cmpi .eq k 0#32)) (IntOp.cmpi .eq md 0#32)

/-- The mask of two of the sixteen blocks. -/
theorem maskWord_ofNat : ∀ a b : Fin 16, maskWord (BitVec.ofNat 32 a.val) (BitVec.ofNat 32 b.val)
    = if a.val = b.val ∨ b.val = 0 ∨ (a.val + b.val) % 3 = 0 then 1#1 else 0#1 := by decide +kernel

/-- The mask at a pair. -/
theorem mask_apply (i j : Fin 1024) : mask (ix2 i j) = if Cert.Attn.keep i j then 1#1 else 0#1 := by
  have h : mask (ix2 i j) = maskWord (blockNo (ix1 i)) (blockNo (ix1 j)) := by
    rfl
  rw [h, blockNo_apply, blockNo_apply]
  exact maskWord_ofNat ⟨i.val / 64, by omega⟩ ⟨j.val / 64, by omega⟩

/-- A disjunction over a range holds when one of its bits does. -/
theorem fold_ori_eq_one {n : Nat} (f : Fin n → BitVec 1) (i : Fin n) (hi : f i = 1#1) :
    Finset.fold IntOp.ori 0#1 f Finset.univ = 1#1 := by
  rw [← Finset.insert_erase (Finset.mem_univ i), Finset.fold_insert (Finset.notMem_erase i _), hi]
  have h : ∀ b : BitVec 1, IntOp.ori 1#1 b = 1#1 := by decide
  exact h _

/-- Every row keeps a key: its own. -/
theorem keepRow_apply (i : Fin 1024) : keepRow (ix1 i) = 1#1 := by
  pointwise [keepRow]
  exact fold_ori_eq_one _ i (by rw [mask_apply]; exact if_pos (Or.inl rfl))

/-- The greatest of finitely many reals, starting from minus infinity, is a real. -/
theorem isReal_fold_max {n : Nat} (f : Fin (n + 1) → EReal) (hf : ∀ j, Cert.Attn.IsReal (f j)) :
    Cert.Attn.IsReal (Finset.fold max (⊥ : EReal) f Finset.univ) := by
  have h1 : Finset.fold max (⊥ : EReal) f Finset.univ < ⊤ := by
    rw [Finset.fold_max_lt]
    refine ⟨bot_lt_top, fun j _ => ?_⟩
    obtain ⟨r, hr⟩ := hf j
    rw [hr]; exact EReal.coe_lt_top r
  have h2 : (⊥ : EReal) < Finset.fold max (⊥ : EReal) f Finset.univ := by
    rw [Finset.lt_fold_max]
    obtain ⟨r, hr⟩ := hf 0
    exact Or.inr ⟨0, Finset.mem_univ _, by rw [hr]; exact EReal.bot_lt_coe r⟩
  exact ⟨_, (EReal.coe_toReal h1.ne h2.ne').symm⟩

/-- The f32 word of minus infinity. -/
theorem ofBits_neg_inf : Ideal.ofBits .f32 0xFF800000#32 = ⊥ := by
  simp [Ideal.ofBits, Ideal.ieee]

/-- A row of real scores has a real maximum. -/
theorem isReal_rowMax (s : FVec Ideal S1x64x1024x1024 .f32) (h : Fin 64) (i : Fin 1024)
    (hs : ∀ j, Cert.Attn.IsReal (s (ix4 0 h i j))) : Cert.Attn.IsReal (rowMax s (ix3 0 h i)) := by
  pointwise [rowMax]
  rw [ofBits_neg_inf]
  exact isReal_fold_max _ hs

/-- The scale both programs use. -/
abbrev scale : EReal := Ideal.ofBits .f32 0x3DB504F3#32

/-- The score both programs give a masked pair. -/
abbrev masked : EReal := Ideal.ofBits .f32 0xCE6E6B28#32

/-- The scores at an index. -/
theorem scores_apply (x : A0) (w : A1) (k : A2) (h : Fin 64) (i j : Fin 1024) :
    scores x w k (ix4 0 h i j)
      = Cert.Attn.scoreR scale masked (fun i k => x (ix3 0 i k)) (fun k e => w (ix2 k e))
          (fun j h d => k (ix4 0 j h d)) h i j := by
  have hc : ∀ d : Fin 128, (⟨h.val * 128 + d.val, by omega⟩ : Fin 8192) = Cert.Attn.col h d :=
    fun d => Fin.ext (by simp only [Cert.Attn.col]; omega)
  pointwise [scores]
  rw [mask_apply]
  unfold Cert.Attn.scoreR
  simp only [hc]
  split
  · rfl
  · rfl

/-- The weights at an index. -/
theorem weights_apply (s : FVec Ideal S1x64x1024x1024 .f32) (h : Fin 64) (i j : Fin 1024) :
    weights (expo s) (ix4 0 h i j) = Ideal.div (Ideal.exp (s (ix4 0 h i j) - rowMax s (ix3 0 h i)))
      (∑ j, Ideal.exp (s (ix4 0 h i j) - rowMax s (ix3 0 h i))) := by
  pointwise [weights, expo, rowSum, keepCol, keepRow_apply]

/-- The result at an index. -/
theorem out_apply (x : A0) (w : A1) (k v : A2) (o : A4) (i n : Fin 1024) :
    out x w k v o (ix3 0 i n)
      = Cert.Attn.outR scale masked (fun i k => x (ix3 0 i k)) (fun k e => w (ix2 k e))
          (fun j h d => k (ix4 0 j h d)) (fun j h d => v (ix4 0 j h d)) (fun e n => o (ix2 e n))
          (fun h i => rowMax (scores x w k) (ix3 0 h i)) i n := by
  pointwise [out, context]
  unfold Cert.Attn.outR Cert.Attn.ctxR
  simp only [weights_apply, scores_apply]

end Cert.ReferenceIdeal.Entry
-- ==== Proof.Finite.lean ====
module

public import proofs.«01_k».proof.Pre_finite_inputs_KernelIdeal
public import proofs.«01_k».proof.Proof.Gen.Pre_finite_inputs_KernelIdeal
public import proofs.«01_k».proof.Proof.Math
public import Idealize.ShloMosaic.Lib.Pointwise
public import Idealize.ShloMosaic.Lib.ReduceAll

/-!
# The precondition, entry by entry

It says of three arrays that every entry's absolute value is below infinity: every entry is a real number.
-/

@[expose] public section

noncomputable section

namespace Cert.Pre_finite_inputs_KernelIdeal

open Idealize.ShloMosaic

/-- An extended real whose absolute value compares below infinity is a real number. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : Cert.Attn.IsReal x := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  have hlt : max x (-x) < ⊤ := by
    by_contra hn
    simp [hn] at h
  have h1 : x ≠ ⊤ := fun e => by subst e; simp at hlt
  have h2 : x ≠ ⊥ := fun e => by subst e; simp at hlt
  exact ⟨x.toReal, (EReal.coe_toReal h1 h2).symm⟩

/-- A conjunction of two bits that is 1. -/
theorem andi_one (a b : BitVec 1) (h : IntOp.andi a b = 1#1) : a = 1#1 ∧ b = 1#1 := by
  revert a b; decide

instance : Subsingleton S_.Idx := ⟨fun i j => funext fun a => a.elim0⟩

/-- The precondition gives that every entry of `x`, of the device's columns of `Wq`, and of the keys is real. -/
theorem isReal_of_fn [Facts] (x : FVec Ideal S1x1024x1024 .f32) (w : FVec Ideal S1024x1024 .f32)
    (k v : FVec Ideal S1x1024x64x128 .f32) (o : FVec Ideal S1024x1024 .f32) (h : fn x w k v o = fun _ => 1#1) :
    (∀ i, Cert.Attn.IsReal (x i)) ∧ (∀ i, Cert.Attn.IsReal (w i)) ∧ (∀ i, Cert.Attn.IsReal (k i)) := by
  have h0 := congrFun h (fun a => a.elim0)
  obtain ⟨h1, hk⟩ := andi_one _ _ h0
  obtain ⟨hx, hw⟩ := andi_one _ _ h1
  exact ⟨fun i => isReal_of_abs_lt _ (Host.reduce_andi_all _ _ _ _ _ hx i),
    fun i => isReal_of_abs_lt _ (Host.reduce_andi_all _ _ _ _ _ hw i),
    fun i => isReal_of_abs_lt _ (Host.reduce_andi_all _ _ _ _ _ hk i)⟩

end Cert.Pre_finite_inputs_KernelIdeal

end
-- ==== Proof.Algebraic.lean ====
module

public import proofs.«01_k».proof.Defs
public import proofs.«01_k».proof.Proof.Collect
public import proofs.«01_k».proof.Proof.RefValue
public import proofs.«01_k».proof.Proof.Finite
public import proofs.«01_k».proof.Proof.Run

/-!
# The kernel's result is the reference's

The result is the finished rows with a leading unit axis; the rows are the sum of the eight devices'
contributions, and that sum is the reference's attention.
-/

@[expose] public section

noncomputable section

open Idealize.ShloMosaic Idealize.SL.Sem
open scoped BigOperators

namespace Cert.KernelIdeal.Net

open Cert.KernelIdeal Cert.KernelIdeal.Gen Idealize.ShloMosaic.TcCoe

theorem uncast_apply (x : S1024x1024.Idx → EReal) (i k : Fin 1024) :
    shapeCast S1x1024x1024 x shapeCasts_S1024x1024_S1x1024x1024 (ix3 0 i k) = x (ix2 i k) := by
  pointwise

/-- The result at an index. -/
theorem result_apply (m : (ℓ : Loc nD τ sig) → Buf (Elt Ideal) ℓ) (c : Dev nD) (i n : Fin 1024) :
    (result m c : S1x1024x1024.Idx → EReal) (ix3 0 i n) = out6 m c (ix2 i n) := by
  have e : (result m c : S1x1024x1024.Idx → EReal)
      = shapeCast S1x1024x1024 (out6 m c : S1024x1024.Idx → EReal) shapeCasts_S1024x1024_S1x1024x1024 := by
    rw [← V2_out m c]
    unfold result V3
    simp only [hostOps1]
    after_results
    rfl
  rw [e, uncast_apply]

/-- The scale is a real number. -/
theorem isReal_scale : Cert.Attn.IsReal scale := by
  unfold scale Ideal.ofBits Ideal.ieee
  exact ⟨_, (if_neg (by decide)).trans (if_neg (by decide))⟩

/-- So is the score of a masked pair. -/
theorem isReal_masked : Cert.Attn.IsReal masked := by
  unfold masked Ideal.ofBits Ideal.ieee
  exact ⟨_, (if_neg (by decide)).trans (if_neg (by decide))⟩

/-- The result when every device's blocks are those of whole arrays: the sum of the eight contributions. -/
theorem result_eq (m : (ℓ : Loc nD τ sig) → Buf (Elt Ideal) ℓ) {X : Fin 1024 → Fin 1024 → EReal}
    {W : Fin 1024 → Fin 8192 → EReal} {K V : Fin 1024 → Fin 64 → Fin 128 → EReal} {O : Fin 8192 → Fin 1024 → EReal}
    (H : ∀ c, Holds m c X W K V O) (c : Dev nD) (i n : Fin 1024) :
    (result m c : S1x1024x1024.Idx → EReal) (ix3 0 i n) = ∑ d : Fin 8, Cert.Attn.partD scale masked X W K V O d i n := by
  rw [result_apply]
  refine out6_at (P := fun c i n => Cert.Attn.partD scale masked X W K V O c i n) ⟨fun c r n i h => ?_, fun c r n i h => ?_⟩ c i n
  · rw [acc1_apply (H c)]; congr 1; exact Fin.ext h.symm
  · rw [acc2_apply (H c)]; congr 1; exact Fin.ext h.symm

end Cert.KernelIdeal.Net

namespace Cert.Proof

/-- A device's columns of `Wq` in the whole. -/
theorem block_cols (w : (⟨2, ![1024, 8192]⟩ : Shape).Idx → EReal) (c : Fin 8) (k e : Fin 1024) :
    Layout.block ⟨2, ![1024, 1024]⟩ ⟨2, ![1024, 8192]⟩ 1 8 c w (by decide) (ix2 k e)
      = w (ix2 k ⟨1024 * c.val + e.val, by omega⟩) := by
  refine congrArg w (funext fun a => Fin.ext ?_)
  match a with
  | 0 => rfl
  | 1 => show c.val * 1024 + e.val = 1024 * c.val + e.val; omega

/-- A device's rows of `Wo` in the whole. -/
theorem block_rows (w : (⟨2, ![8192, 1024]⟩ : Shape).Idx → EReal) (c : Fin 8) (e n : Fin 1024) :
    Layout.block ⟨2, ![1024, 1024]⟩ ⟨2, ![8192, 1024]⟩ 0 8 c w (by decide) (ix2 e n)
      = w (ix2 ⟨1024 * c.val + e.val, by omega⟩ n) := by
  refine congrArg w (funext fun a => Fin.ext ?_)
  match a with
  | 0 => show c.val * 1024 + e.val = 1024 * c.val + e.val; omega
  | 1 => rfl

/-- An index of a result is its two coordinates behind the unit axis. -/
theorem ix_eq (j : (⟨3, ![1, 1024, 1024]⟩ : Shape).Idx) : j = ix3 (0 : Fin 1) (j 1) (j 2) := by
  funext a
  match a with
  | 0 => exact Fin.ext (by have : (j 0).val < 1 := (j 0).isLt; show (j 0).val = 0; omega)
  | 1 => rfl
  | 2 => rfl

/-- The eight contributions add up to the reference's result, where `x`, `Wq` and the keys are real. -/
theorem entry_eq (x : Cert.ReferenceIdeal.Entry.A0) (w : Cert.ReferenceIdeal.Entry.A1) (k v : Cert.ReferenceIdeal.Entry.A2)
    (o : Cert.ReferenceIdeal.Entry.A4) (hX : ∀ (i k : Fin 1024), Cert.Attn.IsReal (x (ix3 0 i k)))
    (hW : ∀ (k : Fin 1024) (e : Fin 8192), Cert.Attn.IsReal (w (ix2 k e)))
    (hK : ∀ (j : Fin 1024) (h : Fin 64) (d : Fin 128), Cert.Attn.IsReal (k (ix4 0 j h d))) (i n : Fin 1024) :
    ∑ d : Fin 8, Cert.Attn.partD Cert.KernelIdeal.Net.scale Cert.KernelIdeal.Net.masked (fun i k => x (ix3 0 i k))
        (fun k e => w (ix2 k e)) (fun j h d => k (ix4 0 j h d)) (fun j h d => v (ix4 0 j h d)) (fun e n => o (ix2 e n)) d i n
      = Cert.ReferenceIdeal.Entry.out x w k v o (ix3 0 i n) := by
  rw [Cert.ReferenceIdeal.Entry.out_apply]
  refine Cert.Attn.sum_partD Cert.KernelIdeal.Net.isReal_scale Cert.KernelIdeal.Net.isReal_masked hX hW hK _
    (fun h i => Cert.ReferenceIdeal.Entry.isReal_rowMax _ h i fun j => ?_) i n
  rw [Cert.ReferenceIdeal.Entry.scores_apply]
  exact (Cert.Attn.scoreD_eq Cert.KernelIdeal.Net.isReal_scale Cert.KernelIdeal.Net.isReal_masked hX hW hK h i j).2

/-- From any memory whose blocks are those of whole arrays, with `x`, `Wq` and the keys finite, every device ends with the
    reference's result. -/
theorem algebraic : Cert.algebraic_KernelIdeal_ReferenceIdeal_pre_finite_inputs_KernelIdeal := by
  intro m g m' g' hpre hargs
  have hfin := fun c => Cert.Pre_finite_inputs_KernelIdeal.isReal_of_fn _ _ _ _ _ (hpre c)
  have H : ∀ c, Cert.KernelIdeal.Net.Holds m c
      (fun i k => (m' (((0 : Dev Cert.ReferenceIdeal.nD).tc : Thread Cert.ReferenceIdeal.nD Cert.ReferenceIdeal.τ).loc Cert.ReferenceIdeal.main_arg0) : Cert.ReferenceIdeal.Entry.A0) (ix3 0 i k))
      (fun k e => (m' (((0 : Dev Cert.ReferenceIdeal.nD).tc : Thread Cert.ReferenceIdeal.nD Cert.ReferenceIdeal.τ).loc Cert.ReferenceIdeal.main_arg1) : Cert.ReferenceIdeal.Entry.A1) (ix2 k e))
      (fun j h d => (m' (((0 : Dev Cert.ReferenceIdeal.nD).tc : Thread Cert.ReferenceIdeal.nD Cert.ReferenceIdeal.τ).loc Cert.ReferenceIdeal.main_arg2) : Cert.ReferenceIdeal.Entry.A2) (ix4 0 j h d))
      (fun j h d => (m' (((0 : Dev Cert.ReferenceIdeal.nD).tc : Thread Cert.ReferenceIdeal.nD Cert.ReferenceIdeal.τ).loc Cert.ReferenceIdeal.main_arg3) : Cert.ReferenceIdeal.Entry.A2) (ix4 0 j h d))
      (fun e n => (m' (((0 : Dev Cert.ReferenceIdeal.nD).tc : Thread Cert.ReferenceIdeal.nD Cert.ReferenceIdeal.τ).loc Cert.ReferenceIdeal.main_arg4) : Cert.ReferenceIdeal.Entry.A4) (ix2 e n)) := fun c =>
    ⟨fun i k => (Cert.KernelIdeal.Net.xArr_apply m c i k).trans (congrFun (hargs c).1 _),
     fun k e => (Cert.KernelIdeal.Net.wqArr_apply m c k e).trans ((congrFun (hargs c).2.1 _).trans (block_cols _ c k e)),
     fun j h d => (Cert.KernelIdeal.Net.kvArr_key m c j h d).trans (congrFun (hargs c).2.2.1 _),
     fun j h d => (Cert.KernelIdeal.Net.kvArr_value m c j h d).trans (congrFun (hargs c).2.2.2.1 _),
     fun e n => (Cert.KernelIdeal.Net.woArr_apply m c e n).trans ((congrFun (hargs c).2.2.2.2 _).trans (block_rows _ c e n))⟩
  have hres : ∀ c, (Cert.KernelIdeal.Net.result m c : Cert.ReferenceIdeal.Entry.A0)
      = Cert.ReferenceIdeal.Value.res_main_v44 (F := Ideal) m' 0 := fun c => by
    rw [Cert.ReferenceIdeal.Entry.res_eq m' 0]
    generalize hx : m' (((0 : Dev Cert.ReferenceIdeal.nD).tc : Thread Cert.ReferenceIdeal.nD Cert.ReferenceIdeal.τ).loc Cert.ReferenceIdeal.main_arg0) = x at H ⊢
    generalize hw : m' (((0 : Dev Cert.ReferenceIdeal.nD).tc : Thread Cert.ReferenceIdeal.nD Cert.ReferenceIdeal.τ).loc Cert.ReferenceIdeal.main_arg1) = w at H ⊢
    generalize hk : m' (((0 : Dev Cert.ReferenceIdeal.nD).tc : Thread Cert.ReferenceIdeal.nD Cert.ReferenceIdeal.τ).loc Cert.ReferenceIdeal.main_arg2) = k at H ⊢
    generalize hv : m' (((0 : Dev Cert.ReferenceIdeal.nD).tc : Thread Cert.ReferenceIdeal.nD Cert.ReferenceIdeal.τ).loc Cert.ReferenceIdeal.main_arg3) = v at H ⊢
    generalize ho : m' (((0 : Dev Cert.ReferenceIdeal.nD).tc : Thread Cert.ReferenceIdeal.nD Cert.ReferenceIdeal.τ).loc Cert.ReferenceIdeal.main_arg4) = o at H ⊢
    have hX : ∀ i, Cert.Attn.IsReal ((x : Cert.ReferenceIdeal.Entry.A0) i) := fun i => by
      have h := (hfin 0).1 i
      rw [(hargs 0).1, hx] at h
      exact h
    have hK : ∀ i, Cert.Attn.IsReal ((k : Cert.ReferenceIdeal.Entry.A2) i) := fun i => by
      have h := (hfin 0).2.2 i
      rw [(hargs 0).2.2.1, hk] at h
      exact h
    have hW : ∀ r e, Cert.Attn.IsReal ((w : Cert.ReferenceIdeal.Entry.A1) (ix2 r e)) := fun r e => by
      have h := (hfin ⟨e.val / 1024, by have := e.isLt; show _ < 8; omega⟩).2.1 (ix2 r ⟨e.val % 1024, by omega⟩)
      rw [(hargs _).2.1, hw] at h
      refine (congrArg Cert.Attn.IsReal ((block_cols w _ r _).trans ?_)).mp h
      congr 2
      exact Fin.ext (by show 1024 * (e.val / 1024) + e.val % 1024 = e.val; omega)
    funext j
    rw [ix_eq j]
    exact (Cert.KernelIdeal.Net.result_eq m H c (j 1) (j 2)).trans
      (entry_eq x w k v o (fun i k => hX _) hW (fun j h d => hK _) (j 1) (j 2))
  exact ⟨Cert.ReferenceIdeal.Value.res_main_v44 (F := Ideal) m' 0,
    (θ_run _ _ _).mono (fun _ h c => ⟨(h.1 c).1.trans (hres c), (h.1 c).2⟩) (Cert.KernelIdeal.Net.run_main (F := Ideal) m g),
    (θ_run _ _ _).mono (fun _ h => h 0) (Cert.ReferenceIdeal.Value.run (F := Ideal) m' g')⟩

end Cert.Proof

end
-- ==== Proof.lean ====
/- The claim: the frames (Proof/Frames.lean), the idealization with no rewrite, and the algebraic claim (Proof/Algebraic.lean). -/
module

public import proofs.«01_k».proof.Proof.Frames
public import proofs.«01_k».proof.Proof.Algebraic
public import proofs.«01_k».proof.Proof.Gen.Pre_finite_inputs_KernelIdeal
public import proofs.«01_k».proof.Proof.Gen.Pre_finite_inputs_ReferenceIdeal

@[expose] public section

noncomputable section

namespace Cert.Proof

theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  frame_kernel, frame_ideal, fun m g _ => frame_ideal m g trivial, frame_reference, fun m g _ => frame_reference m g trivial,
  trivial, algebraic⟩

end Cert.Proof

end
